-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 2] ![[2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 1024]⟩ (Layout.meshBlock [2, 2, 2] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S2048x512 : Shape := ⟨2, ![2048, 512]⟩
abbrev S512x512 : Shape := ⟨2, ![512, 512]⟩
abbrev S11 : Shape := ⟨1, ![11]⟩
abbrev S7 : Shape := ⟨1, ![7]⟩
abbrev S_ : Shape := ⟨0, ![]⟩
abbrev S1 : Shape := ⟨1, ![1]⟩
abbrev S64x512 : Shape := ⟨2, ![64, 512]⟩
abbrev S1x64x512 : Shape := ⟨3, ![1, 64, 512]⟩
abbrev S64x256 : Shape := ⟨2, ![64, 256]⟩

abbrev nBuf : Space → Nat
  | .hbm => 2
  | .vmem => 4
  | .smem => 0
  | _ => 0

abbrev bufTy : (tb : Table) → Fin (tcTables nBuf tb) → BufTy
  | .hbm, ⟨0, _⟩ => ⟨S1x2048x1024, .f32⟩
  | .hbm, ⟨1, _⟩ => ⟨S2048x512, .f32⟩
  | .local _ .vmem, ⟨0, _⟩ => ⟨S1x2048x1024, .f32⟩
  | .local _ .vmem, ⟨1, _⟩ => ⟨S2048x512, .f32⟩
  | .local _ .vmem, ⟨2, _⟩ => ⟨S2048x512, .f32⟩
  | .local _ .vmem, ⟨3, _⟩ => ⟨S512x512, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  (ofTc nBuf bufTy 1 80 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_14 : BitVec 32 := 512#32
  let v25 : BitVec 32 := Scalar.muli v8 c512_i32_14
  v25
def k0_mult2 (d0 : Dev nD) : BitVec 32 :=
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_15 v8
  let c512_i32_16 : BitVec 32 := 512#32
  let v28 : BitVec 32 := Scalar.muli v27 c512_i32_16
  v28
def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v34 : BitVec 32 := Scalar.muli v2 c4_i32_21
  let v35 : BitVec 32 := Scalar.addi c0_i32 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v36 : BitVec 32 := Scalar.muli v5 c2_i32_22
  let v37 : BitVec 32 := Scalar.addi v35 v36
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_17 v8
  let c1_i32_23 : BitVec 32 := 1#32
  let v38 : BitVec 32 := Scalar.muli v30 c1_i32_23
  let v39 : BitVec 32 := Scalar.addi v37 v38
  v39.toNat
def k0_dev2 (d0 : Dev nD) : Nat :=
  let c0_i32_26 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_18 v2
  let c4_i32_25 : BitVec 32 := 4#32
  let v40 : BitVec 32 := Scalar.muli v31 c4_i32_25
  let v41 : BitVec 32 := Scalar.addi c0_i32_26 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_27 : BitVec 32 := 2#32
  let v42 : BitVec 32 := Scalar.muli v5 c2_i32_27
  let v43 : BitVec 32 := Scalar.addi v41 v42
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v44 : BitVec 32 := Scalar.muli v8 c1_i32_28
  let v45 : BitVec 32 := Scalar.addi v43 v44
  v45.toNat
def k0_dev3 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v46 : BitVec 32 := Scalar.muli v2 c4_i32_30
  let v47 : BitVec 32 := Scalar.addi c0_i32_31 v46
  let c1_i32_19 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_19 v5
  let c2_i32_32 : BitVec 32 := 2#32
  let v48 : BitVec 32 := Scalar.muli v32 c2_i32_32
  let v49 : BitVec 32 := Scalar.addi v47 v48
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v50 : BitVec 32 := Scalar.muli v8 c1_i32_33
  let v51 : BitVec 32 := Scalar.addi v49 v50
  v51.toNat
def k0_mult3 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c0_i32_34 : BitVec 32 := 0#32
  let v52 : BitVec 32 := Scalar.addi v11 c0_i32_34
  v52
def k0_mult4 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c0_i32_35 : BitVec 32 := 0#32
  let v54 : BitVec 32 := Scalar.addi v11 c0_i32_35
  v54
def k0_off1 (d0 : Dev nD) (c0_i32_35 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let v54 : BitVec 32 := Scalar.addi v11 c0_i32_35
  let v55 : BitVec 32 := v54
  let c0_i32_43 : BitVec 32 := 0#32
  ![v55.toNat, 0]
def k0_off2 (d0 : Dev nD) (c0_i32_34 : BitVec 32) : Fin 3 → Nat :=
  let c0_i32_36 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let v52 : BitVec 32 := Scalar.addi v11 c0_i32_34
  let v53 : BitVec 32 := v52
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_15 v8
  let c512_i32_16 : BitVec 32 := 512#32
  let v28 : BitVec 32 := Scalar.muli v27 c512_i32_16
  let v29 : BitVec 32 := v28
  ![0, v53.toNat, v29.toNat]
def k0_dev4 (d0 : Dev nD) : Nat :=
  let c0_i32_40 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_39 : BitVec 32 := 4#32
  let v56 : BitVec 32 := Scalar.muli v2 c4_i32_39
  let v57 : BitVec 32 := Scalar.addi c0_i32_40 v56
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_41 : BitVec 32 := 2#32
  let v58 : BitVec 32 := Scalar.muli v5 c2_i32_41
  let v59 : BitVec 32 := Scalar.addi v57 v58
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_17 v8
  let c1_i32_42 : BitVec 32 := 1#32
  let v60 : BitVec 32 := Scalar.muli v30 c1_i32_42
  let v61 : BitVec 32 := Scalar.addi v59 v60
  v61.toNat
def k0_mult5 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c64_i32 : BitVec 32 := 64#32
  let v69 : BitVec 32 := Scalar.addi v11 c64_i32
  v69
def k0_mult6 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c64_i32_44 : BitVec 32 := 64#32
  let v71 : BitVec 32 := Scalar.addi v11 c64_i32_44
  v71
def k0_dev5 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v73 : BitVec 32 := Scalar.muli v2 c4_i32_48
  let v74 : BitVec 32 := Scalar.addi c0_i32_49 v73
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v75 : BitVec 32 := Scalar.muli v5 c2_i32_50
  let v76 : BitVec 32 := Scalar.addi v74 v75
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_17 v8
  let c1_i32_51 : BitVec 32 := 1#32
  let v77 : BitVec 32 := Scalar.muli v30 c1_i32_51
  let v78 : BitVec 32 := Scalar.addi v76 v77
  v78.toNat
def k0_mult7 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c128_i32 : BitVec 32 := 128#32
  let v86 : BitVec 32 := Scalar.addi v11 c128_i32
  v86
def k0_mult8 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c128_i32_53 : BitVec 32 := 128#32
  let v88 : BitVec 32 := Scalar.addi v11 c128_i32_53
  v88
def k0_dev6 (d0 : Dev nD) : Nat :=
  let c0_i32_58 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_57 : BitVec 32 := 4#32
  let v90 : BitVec 32 := Scalar.muli v2 c4_i32_57
  let v91 : BitVec 32 := Scalar.addi c0_i32_58 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v92 : BitVec 32 := Scalar.muli v5 c2_i32_59
  let v93 : BitVec 32 := Scalar.addi v91 v92
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_17 v8
  let c1_i32_60 : BitVec 32 := 1#32
  let v94 : BitVec 32 := Scalar.muli v30 c1_i32_60
  let v95 : BitVec 32 := Scalar.addi v93 v94
  v95.toNat
def k0_mult9 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c192_i32 : BitVec 32 := 192#32
  let v103 : BitVec 32 := Scalar.addi v11 c192_i32
  v103
def k0_mult10 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c192_i32_62 : BitVec 32 := 192#32
  let v105 : BitVec 32 := Scalar.addi v11 c192_i32_62
  v105
def k0_dev7 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_66 : BitVec 32 := 4#32
  let v107 : BitVec 32 := Scalar.muli v2 c4_i32_66
  let v108 : BitVec 32 := Scalar.addi c0_i32_67 v107
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_68 : BitVec 32 := 2#32
  let v109 : BitVec 32 := Scalar.muli v5 c2_i32_68
  let v110 : BitVec 32 := Scalar.addi v108 v109
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_17 v8
  let c1_i32_69 : BitVec 32 := 1#32
  let v111 : BitVec 32 := Scalar.muli v30 c1_i32_69
  let v112 : BitVec 32 := Scalar.addi v110 v111
  v112.toNat
def k0_mult11 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c256_i32 : BitVec 32 := 256#32
  let v120 : BitVec 32 := Scalar.addi v11 c256_i32
  v120
def k0_mult12 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c256_i32_71 : BitVec 32 := 256#32
  let v122 : BitVec 32 := Scalar.addi v11 c256_i32_71
  v122
def k0_dev8 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_75 : BitVec 32 := 4#32
  let v124 : BitVec 32 := Scalar.muli v2 c4_i32_75
  let v125 : BitVec 32 := Scalar.addi c0_i32_76 v124
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_77 : BitVec 32 := 2#32
  let v126 : BitVec 32 := Scalar.muli v5 c2_i32_77
  let v127 : BitVec 32 := Scalar.addi v125 v126
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_17 v8
  let c1_i32_78 : BitVec 32 := 1#32
  let v128 : BitVec 32 := Scalar.muli v30 c1_i32_78
  let v129 : BitVec 32 := Scalar.addi v127 v128
  v129.toNat
def k0_mult13 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c320_i32 : BitVec 32 := 320#32
  let v137 : BitVec 32 := Scalar.addi v11 c320_i32
  v137
def k0_mult14 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c320_i32_80 : BitVec 32 := 320#32
  let v139 : BitVec 32 := Scalar.addi v11 c320_i32_80
  v139
def k0_dev9 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_83 : BitVec 32 := 4#32
  let v141 : BitVec 32 := Scalar.muli v2 c4_i32_83
  let v142 : BitVec 32 := Scalar.addi c0_i32_84 v141
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v143 : BitVec 32 := Scalar.muli v5 c2_i32_85
  let v144 : BitVec 32 := Scalar.addi v142 v143
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_17 v8
  let c1_i32_86 : BitVec 32 := 1#32
  let v145 : BitVec 32 := Scalar.muli v30 c1_i32_86
  let v146 : BitVec 32 := Scalar.addi v144 v145
  v146.toNat
def k0_mult15 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c384_i32 : BitVec 32 := 384#32
  let v154 : BitVec 32 := Scalar.addi v11 c384_i32
  v154
def k0_mult16 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c384_i32_88 : BitVec 32 := 384#32
  let v156 : BitVec 32 := Scalar.addi v11 c384_i32_88
  v156
def k0_dev10 (d0 : Dev nD) : Nat :=
  let c0_i32_92 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_91 : BitVec 32 := 4#32
  let v158 : BitVec 32 := Scalar.muli v2 c4_i32_91
  let v159 : BitVec 32 := Scalar.addi c0_i32_92 v158
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_93 : BitVec 32 := 2#32
  let v160 : BitVec 32 := Scalar.muli v5 c2_i32_93
  let v161 : BitVec 32 := Scalar.addi v159 v160
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_17 v8
  let c1_i32_94 : BitVec 32 := 1#32
  let v162 : BitVec 32 := Scalar.muli v30 c1_i32_94
  let v163 : BitVec 32 := Scalar.addi v161 v162
  v163.toNat
def k0_mult17 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c448_i32 : BitVec 32 := 448#32
  let v171 : BitVec 32 := Scalar.addi v11 c448_i32
  v171
def k0_mult18 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c448_i32_96 : BitVec 32 := 448#32
  let v173 : BitVec 32 := Scalar.addi v11 c448_i32_96
  v173
def k0_dev11 (d0 : Dev nD) : Nat :=
  let c0_i32_100 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_99 : BitVec 32 := 4#32
  let v175 : BitVec 32 := Scalar.muli v2 c4_i32_99
  let v176 : BitVec 32 := Scalar.addi c0_i32_100 v175
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v177 : BitVec 32 := Scalar.muli v5 c2_i32_101
  let v178 : BitVec 32 := Scalar.addi v176 v177
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_17 v8
  let c1_i32_102 : BitVec 32 := 1#32
  let v179 : BitVec 32 := Scalar.muli v30 c1_i32_102
  let v180 : BitVec 32 := Scalar.addi v178 v179
  v180.toNat
def k0_mult19 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c0_i32_104 : BitVec 32 := 0#32
  let v188 : BitVec 32 := Scalar.addi v15 c0_i32_104
  v188
def k0_mult20 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c0_i32_105 : BitVec 32 := 0#32
  let v190 : BitVec 32 := Scalar.addi v15 c0_i32_105
  v190
def k0_off3 (d0 : Dev nD) (c0_i32_105 : BitVec 32) : Fin 2 → Nat :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let v190 : BitVec 32 := Scalar.addi v15 c0_i32_105
  let v191 : BitVec 32 := v190
  let c0_i32_112 : BitVec 32 := 0#32
  ![v191.toNat, 0]
def k0_off4 (d0 : Dev nD) : Fin 3 → Nat :=
  let c0_i32_106 : BitVec 32 := 0#32
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c0_i32_104 : BitVec 32 := 0#32
  let v188 : BitVec 32 := Scalar.addi v15 c0_i32_104
  let v189 : BitVec 32 := v188
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_15 v8
  let c512_i32_16 : BitVec 32 := 512#32
  let v28 : BitVec 32 := Scalar.muli v27 c512_i32_16
  let v29 : BitVec 32 := v28
  ![0, v189.toNat, v29.toNat]
def k0_dev12 (d0 : Dev nD) : Nat :=
  let c0_i32_109 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_108 : BitVec 32 := 4#32
  let v192 : BitVec 32 := Scalar.muli v2 c4_i32_108
  let v193 : BitVec 32 := Scalar.addi c0_i32_109 v192
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_110 : BitVec 32 := 2#32
  let v194 : BitVec 32 := Scalar.muli v5 c2_i32_110
  let v195 : BitVec 32 := Scalar.addi v193 v194
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_17 v8
  let c1_i32_111 : BitVec 32 := 1#32
  let v196 : BitVec 32 := Scalar.muli v30 c1_i32_111
  let v197 : BitVec 32 := Scalar.addi v195 v196
  v197.toNat
def k0_mult21 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c0_i32_113 : BitVec 32 := 0#32
  let v205 : BitVec 32 := Scalar.addi v19 c0_i32_113
  v205
def k0_mult22 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c0_i32_114 : BitVec 32 := 0#32
  let v207 : BitVec 32 := Scalar.addi v19 c0_i32_114
  v207
def k0_off5 (d0 : Dev nD) (c0_i32_114 : BitVec 32) : Fin 2 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let v207 : BitVec 32 := Scalar.addi v19 c0_i32_114
  let v208 : BitVec 32 := v207
  let c0_i32_121 : BitVec 32 := 0#32
  ![v208.toNat, 0]
def k0_off6 (d0 : Dev nD) : Fin 3 → Nat :=
  let c0_i32_115 : BitVec 32 := 0#32
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c0_i32_113 : BitVec 32 := 0#32
  let v205 : BitVec 32 := Scalar.addi v19 c0_i32_113
  let v206 : BitVec 32 := v205
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_15 v8
  let c512_i32_16 : BitVec 32 := 512#32
  let v28 : BitVec 32 := Scalar.muli v27 c512_i32_16
  let v29 : BitVec 32 := v28
  ![0, v206.toNat, v29.toNat]
def k0_dev13 (d0 : Dev nD) : Nat :=
  let c0_i32_118 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_117 : BitVec 32 := 4#32
  let v209 : BitVec 32 := Scalar.muli v2 c4_i32_117
  let v210 : BitVec 32 := Scalar.addi c0_i32_118 v209
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_119 : BitVec 32 := 2#32
  let v211 : BitVec 32 := Scalar.muli v5 c2_i32_119
  let v212 : BitVec 32 := Scalar.addi v210 v211
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_17 v8
  let c1_i32_120 : BitVec 32 := 1#32
  let v213 : BitVec 32 := Scalar.muli v30 c1_i32_120
  let v214 : BitVec 32 := Scalar.addi v212 v213
  v214.toNat
def k0_mult23 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c0_i32_122 : BitVec 32 := 0#32
  let v222 : BitVec 32 := Scalar.addi v24 c0_i32_122
  v222
def k0_mult24 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c0_i32_123 : BitVec 32 := 0#32
  let v224 : BitVec 32 := Scalar.addi v24 c0_i32_123
  v224
def k0_off7 (d0 : Dev nD) : Fin 2 → Nat :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c0_i32_123 : BitVec 32 := 0#32
  let v224 : BitVec 32 := Scalar.addi v24 c0_i32_123
  let v225 : BitVec 32 := v224
  let c0_i32_130 : BitVec 32 := 0#32
  ![v225.toNat, 0]
def k0_off8 (d0 : Dev nD) : Fin 3 → Nat :=
  let c0_i32_124 : BitVec 32 := 0#32
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c0_i32_122 : BitVec 32 := 0#32
  let v222 : BitVec 32 := Scalar.addi v24 c0_i32_122
  let v223 : BitVec 32 := v222
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_15 v8
  let c512_i32_16 : BitVec 32 := 512#32
  let v28 : BitVec 32 := Scalar.muli v27 c512_i32_16
  let v29 : BitVec 32 := v28
  ![0, v223.toNat, v29.toNat]
def k0_dev14 (d0 : Dev nD) : Nat :=
  let c0_i32_127 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_126 : BitVec 32 := 4#32
  let v226 : BitVec 32 := Scalar.muli v2 c4_i32_126
  let v227 : BitVec 32 := Scalar.addi c0_i32_127 v226
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_128 : BitVec 32 := 2#32
  let v228 : BitVec 32 := Scalar.muli v5 c2_i32_128
  let v229 : BitVec 32 := Scalar.addi v227 v228
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_17 v8
  let c1_i32_129 : BitVec 32 := 1#32
  let v230 : BitVec 32 := Scalar.muli v30 c1_i32_129
  let v231 : BitVec 32 := Scalar.addi v229 v230
  v231.toNat
def k0_mult25 : BitVec 32 :=
  let c0_i32_131 : BitVec 32 := 0#32
  c0_i32_131
def k0_mult26 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c0_i32_132 : BitVec 32 := 0#32
  let v240 : BitVec 32 := Scalar.addi v11 c0_i32_132
  v240
def k0_mult27 : BitVec 32 :=
  let c64_i32_133 : BitVec 32 := 64#32
  c64_i32_133
def k0_mult28 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c64_i32_134 : BitVec 32 := 64#32
  let v243 : BitVec 32 := Scalar.addi v11 c64_i32_134
  v243
def k0_mult29 : BitVec 32 :=
  let c128_i32_135 : BitVec 32 := 128#32
  c128_i32_135
def k0_mult30 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c128_i32_136 : BitVec 32 := 128#32
  let v246 : BitVec 32 := Scalar.addi v11 c128_i32_136
  v246
def k0_mult31 : BitVec 32 :=
  let c192_i32_137 : BitVec 32 := 192#32
  c192_i32_137
def k0_mult32 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c192_i32_138 : BitVec 32 := 192#32
  let v249 : BitVec 32 := Scalar.addi v11 c192_i32_138
  v249
def k0_mult33 : BitVec 32 :=
  let c256_i32_139 : BitVec 32 := 256#32
  c256_i32_139
def k0_mult34 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c256_i32_140 : BitVec 32 := 256#32
  let v252 : BitVec 32 := Scalar.addi v11 c256_i32_140
  v252
def k0_mult35 : BitVec 32 :=
  let c320_i32_141 : BitVec 32 := 320#32
  c320_i32_141
def k0_mult36 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c320_i32_142 : BitVec 32 := 320#32
  let v255 : BitVec 32 := Scalar.addi v11 c320_i32_142
  v255
def k0_mult37 : BitVec 32 :=
  let c384_i32_143 : BitVec 32 := 384#32
  c384_i32_143
def k0_mult38 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c384_i32_144 : BitVec 32 := 384#32
  let v258 : BitVec 32 := Scalar.addi v11 c384_i32_144
  v258
def k0_mult39 : BitVec 32 :=
  let c448_i32_145 : BitVec 32 := 448#32
  c448_i32_145
def k0_mult40 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c448_i32_146 : BitVec 32 := 448#32
  let v261 : BitVec 32 := Scalar.addi v11 c448_i32_146
  v261
def k0_mult41 : BitVec 32 :=
  let c0_i32_147 : BitVec 32 := 0#32
  c0_i32_147
def k0_mult42 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c0_i32_148 : BitVec 32 := 0#32
  let v264 : BitVec 32 := Scalar.addi v15 c0_i32_148
  v264
def k0_mult43 : BitVec 32 :=
  let c0_i32_149 : BitVec 32 := 0#32
  c0_i32_149
def k0_mult44 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c0_i32_150 : BitVec 32 := 0#32
  let v267 : BitVec 32 := Scalar.addi v19 c0_i32_150
  v267
def k0_mult45 : BitVec 32 :=
  let c0_i32_151 : BitVec 32 := 0#32
  c0_i32_151
def k0_mult46 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c0_i32_152 : BitVec 32 := 0#32
  let v270 : BitVec 32 := Scalar.addi v24 c0_i32_152
  v270
def k0_mult47 : BitVec 32 :=
  let c64_i32_153 : BitVec 32 := 64#32
  c64_i32_153
def k0_mult48 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c64_i32_154 : BitVec 32 := 64#32
  let v273 : BitVec 32 := Scalar.addi v15 c64_i32_154
  v273
def k0_mult49 : BitVec 32 :=
  let c128_i32_155 : BitVec 32 := 128#32
  c128_i32_155
def k0_mult50 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c128_i32_156 : BitVec 32 := 128#32
  let v276 : BitVec 32 := Scalar.addi v15 c128_i32_156
  v276
def k0_mult51 : BitVec 32 :=
  let c192_i32_157 : BitVec 32 := 192#32
  c192_i32_157
def k0_mult52 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c192_i32_158 : BitVec 32 := 192#32
  let v279 : BitVec 32 := Scalar.addi v15 c192_i32_158
  v279
def k0_mult53 : BitVec 32 :=
  let c256_i32_159 : BitVec 32 := 256#32
  c256_i32_159
def k0_mult54 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c256_i32_160 : BitVec 32 := 256#32
  let v282 : BitVec 32 := Scalar.addi v15 c256_i32_160
  v282
def k0_mult55 : BitVec 32 :=
  let c320_i32_161 : BitVec 32 := 320#32
  c320_i32_161
def k0_mult56 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c320_i32_162 : BitVec 32 := 320#32
  let v285 : BitVec 32 := Scalar.addi v15 c320_i32_162
  v285
def k0_mult57 : BitVec 32 :=
  let c384_i32_163 : BitVec 32 := 384#32
  c384_i32_163
def k0_mult58 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c384_i32_164 : BitVec 32 := 384#32
  let v288 : BitVec 32 := Scalar.addi v15 c384_i32_164
  v288
def k0_mult59 : BitVec 32 :=
  let c448_i32_165 : BitVec 32 := 448#32
  c448_i32_165
def k0_mult60 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c448_i32_166 : BitVec 32 := 448#32
  let v291 : BitVec 32 := Scalar.addi v15 c448_i32_166
  v291
def k0_mult61 : BitVec 32 :=
  let c64_i32_167 : BitVec 32 := 64#32
  c64_i32_167
def k0_mult62 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c64_i32_168 : BitVec 32 := 64#32
  let v294 : BitVec 32 := Scalar.addi v19 c64_i32_168
  v294
def k0_mult63 : BitVec 32 :=
  let c128_i32_169 : BitVec 32 := 128#32
  c128_i32_169
def k0_mult64 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c128_i32_170 : BitVec 32 := 128#32
  let v297 : BitVec 32 := Scalar.addi v19 c128_i32_170
  v297
def k0_mult65 : BitVec 32 :=
  let c192_i32_171 : BitVec 32 := 192#32
  c192_i32_171
def k0_mult66 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c192_i32_172 : BitVec 32 := 192#32
  let v300 : BitVec 32 := Scalar.addi v19 c192_i32_172
  v300
def k0_mult67 : BitVec 32 :=
  let c256_i32_173 : BitVec 32 := 256#32
  c256_i32_173
def k0_mult68 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c256_i32_174 : BitVec 32 := 256#32
  let v303 : BitVec 32 := Scalar.addi v19 c256_i32_174
  v303
def k0_mult69 : BitVec 32 :=
  let c320_i32_175 : BitVec 32 := 320#32
  c320_i32_175
def k0_mult70 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c320_i32_176 : BitVec 32 := 320#32
  let v306 : BitVec 32 := Scalar.addi v19 c320_i32_176
  v306
def k0_mult71 : BitVec 32 :=
  let c384_i32_177 : BitVec 32 := 384#32
  c384_i32_177
def k0_mult72 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c384_i32_178 : BitVec 32 := 384#32
  let v309 : BitVec 32 := Scalar.addi v19 c384_i32_178
  v309
def k0_mult73 : BitVec 32 :=
  let c448_i32_179 : BitVec 32 := 448#32
  c448_i32_179
def k0_mult74 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c448_i32_180 : BitVec 32 := 448#32
  let v312 : BitVec 32 := Scalar.addi v19 c448_i32_180
  v312
def k0_mult75 : BitVec 32 :=
  let c64_i32_181 : BitVec 32 := 64#32
  c64_i32_181
def k0_mult76 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c64_i32_182 : BitVec 32 := 64#32
  let v315 : BitVec 32 := Scalar.addi v24 c64_i32_182
  v315
def k0_mult77 : BitVec 32 :=
  let c128_i32_183 : BitVec 32 := 128#32
  c128_i32_183
def k0_mult78 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c128_i32_184 : BitVec 32 := 128#32
  let v318 : BitVec 32 := Scalar.addi v24 c128_i32_184
  v318
def k0_mult79 : BitVec 32 :=
  let c192_i32_185 : BitVec 32 := 192#32
  c192_i32_185
def k0_mult80 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c192_i32_186 : BitVec 32 := 192#32
  let v321 : BitVec 32 := Scalar.addi v24 c192_i32_186
  v321
def k0_mult81 : BitVec 32 :=
  let c256_i32_187 : BitVec 32 := 256#32
  c256_i32_187
def k0_mult82 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c256_i32_188 : BitVec 32 := 256#32
  let v324 : BitVec 32 := Scalar.addi v24 c256_i32_188
  v324
def k0_mult83 : BitVec 32 :=
  let c320_i32_189 : BitVec 32 := 320#32
  c320_i32_189
def k0_mult84 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c320_i32_190 : BitVec 32 := 320#32
  let v327 : BitVec 32 := Scalar.addi v24 c320_i32_190
  v327
def k0_mult85 : BitVec 32 :=
  let c384_i32_191 : BitVec 32 := 384#32
  c384_i32_191
def k0_mult86 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c384_i32_192 : BitVec 32 := 384#32
  let v330 : BitVec 32 := Scalar.addi v24 c384_i32_192
  v330
def k0_mult87 : BitVec 32 :=
  let c448_i32_193 : BitVec 32 := 448#32
  c448_i32_193
def k0_mult88 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c448_i32_194 : BitVec 32 := 448#32
  let v333 : BitVec 32 := Scalar.addi v24 c448_i32_194
  v333
def k0_mult89 : BitVec 32 :=
  let c64_i32_195 : BitVec 32 := 64#32
  c64_i32_195
def k0_mult90 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c64_i32_196 : BitVec 32 := 64#32
  let v336 : BitVec 32 := Scalar.addi v24 c64_i32_196
  v336
def k0_mult91 : BitVec 32 :=
  let c128_i32_197 : BitVec 32 := 128#32
  c128_i32_197
def k0_mult92 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c128_i32_198 : BitVec 32 := 128#32
  let v339 : BitVec 32 := Scalar.addi v24 c128_i32_198
  v339
def k0_mult93 : BitVec 32 :=
  let c192_i32_199 : BitVec 32 := 192#32
  c192_i32_199
def k0_mult94 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c192_i32_200 : BitVec 32 := 192#32
  let v342 : BitVec 32 := Scalar.addi v24 c192_i32_200
  v342
def k0_mult95 : BitVec 32 :=
  let c256_i32_201 : BitVec 32 := 256#32
  c256_i32_201
def k0_mult96 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c256_i32_202 : BitVec 32 := 256#32
  let v345 : BitVec 32 := Scalar.addi v24 c256_i32_202
  v345
def k0_mult97 : BitVec 32 :=
  let c320_i32_203 : BitVec 32 := 320#32
  c320_i32_203
def k0_mult98 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c320_i32_204 : BitVec 32 := 320#32
  let v348 : BitVec 32 := Scalar.addi v24 c320_i32_204
  v348
def k0_mult99 : BitVec 32 :=
  let c384_i32_205 : BitVec 32 := 384#32
  c384_i32_205
def k0_mult100 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c384_i32_206 : BitVec 32 := 384#32
  let v351 : BitVec 32 := Scalar.addi v24 c384_i32_206
  v351
def k0_mult101 : BitVec 32 :=
  let c448_i32_207 : BitVec 32 := 448#32
  c448_i32_207
def k0_mult102 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c448_i32_208 : BitVec 32 := 448#32
  let v354 : BitVec 32 := Scalar.addi v24 c448_i32_208
  v354
def k0_mult103 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c0_i32_217 : BitVec 32 := 0#32
  let v366 : BitVec 32 := Scalar.addi v11 c0_i32_217
  v366
def k0_off9 (d0 : Dev nD) (c0_i32_217 : BitVec 32) : Fin 3 → Nat :=
  let c0 : Index := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let v366 : BitVec 32 := Scalar.addi v11 c0_i32_217
  let v367 : BitVec 32 := v366
  let v368 : Index := Scalar.indexCast v367
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_14 : BitVec 32 := 512#32
  let v25 : BitVec 32 := Scalar.muli v8 c512_i32_14
  let v26 : BitVec 32 := v25
  let v369 : Index := Scalar.indexCast v26
  ![0, v368.toNat, v369.toNat]
def k0_mult104 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c0_i32_218 : BitVec 32 := 0#32
  let v372 : BitVec 32 := Scalar.addi v11 c0_i32_218
  v372
def k0_off10 (d0 : Dev nD) (c0_i32_218 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let v372 : BitVec 32 := Scalar.addi v11 c0_i32_218
  let v373 : BitVec 32 := v372
  let v374 : Index := Scalar.indexCast v373
  let c0_219 : Index := 0#32
  ![v374.toNat, 0]
def k0_mult105 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c0_i32_220 : BitVec 32 := 0#32
  let v377 : BitVec 32 := Scalar.addi v11 c0_i32_220
  v377
def k0_mult106 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c64_i32_230 : BitVec 32 := 64#32
  let v391 : BitVec 32 := Scalar.addi v11 c64_i32_230
  v391
def k0_mult107 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c64_i32_231 : BitVec 32 := 64#32
  let v393 : BitVec 32 := Scalar.addi v11 c64_i32_231
  v393
def k0_dev15 (d0 : Dev nD) : Nat :=
  let c0_i32_235 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_18 v2
  let c4_i32_234 : BitVec 32 := 4#32
  let v395 : BitVec 32 := Scalar.muli v31 c4_i32_234
  let v396 : BitVec 32 := Scalar.addi c0_i32_235 v395
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_236 : BitVec 32 := 2#32
  let v397 : BitVec 32 := Scalar.muli v5 c2_i32_236
  let v398 : BitVec 32 := Scalar.addi v396 v397
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_237 : BitVec 32 := 1#32
  let v399 : BitVec 32 := Scalar.muli v8 c1_i32_237
  let v400 : BitVec 32 := Scalar.addi v398 v399
  v400.toNat
def k0_mult108 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c64_i32_240 : BitVec 32 := 64#32
  let v407 : BitVec 32 := Scalar.addi v11 c64_i32_240
  v407
def k0_mult109 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c64_i32_241 : BitVec 32 := 64#32
  let v409 : BitVec 32 := Scalar.addi v11 c64_i32_241
  v409
def k0_dev16 (d0 : Dev nD) : Nat :=
  let c0_i32_245 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_244 : BitVec 32 := 4#32
  let v411 : BitVec 32 := Scalar.muli v2 c4_i32_244
  let v412 : BitVec 32 := Scalar.addi c0_i32_245 v411
  let c1_i32_19 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_19 v5
  let c2_i32_246 : BitVec 32 := 2#32
  let v413 : BitVec 32 := Scalar.muli v32 c2_i32_246
  let v414 : BitVec 32 := Scalar.addi v412 v413
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_247 : BitVec 32 := 1#32
  let v415 : BitVec 32 := Scalar.muli v8 c1_i32_247
  let v416 : BitVec 32 := Scalar.addi v414 v415
  v416.toNat
def k0_mult110 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c64_i32_250 : BitVec 32 := 64#32
  let v423 : BitVec 32 := Scalar.addi v11 c64_i32_250
  v423
def k0_mult111 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c64_i32_252 : BitVec 32 := 64#32
  let v429 : BitVec 32 := Scalar.addi v11 c64_i32_252
  v429
def k0_mult112 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c64_i32_254 : BitVec 32 := 64#32
  let v434 : BitVec 32 := Scalar.addi v11 c64_i32_254
  v434
def k0_mult113 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c128_i32_264 : BitVec 32 := 128#32
  let v448 : BitVec 32 := Scalar.addi v11 c128_i32_264
  v448
def k0_mult114 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c128_i32_265 : BitVec 32 := 128#32
  let v450 : BitVec 32 := Scalar.addi v11 c128_i32_265
  v450
def k0_dev17 (d0 : Dev nD) : Nat :=
  let c0_i32_269 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_18 v2
  let c4_i32_268 : BitVec 32 := 4#32
  let v452 : BitVec 32 := Scalar.muli v31 c4_i32_268
  let v453 : BitVec 32 := Scalar.addi c0_i32_269 v452
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v454 : BitVec 32 := Scalar.muli v5 c2_i32_270
  let v455 : BitVec 32 := Scalar.addi v453 v454
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_271 : BitVec 32 := 1#32
  let v456 : BitVec 32 := Scalar.muli v8 c1_i32_271
  let v457 : BitVec 32 := Scalar.addi v455 v456
  v457.toNat
def k0_mult115 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c128_i32_274 : BitVec 32 := 128#32
  let v464 : BitVec 32 := Scalar.addi v11 c128_i32_274
  v464
def k0_mult116 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c128_i32_275 : BitVec 32 := 128#32
  let v466 : BitVec 32 := Scalar.addi v11 c128_i32_275
  v466
def k0_dev18 (d0 : Dev nD) : Nat :=
  let c0_i32_279 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_278 : BitVec 32 := 4#32
  let v468 : BitVec 32 := Scalar.muli v2 c4_i32_278
  let v469 : BitVec 32 := Scalar.addi c0_i32_279 v468
  let c1_i32_19 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_19 v5
  let c2_i32_280 : BitVec 32 := 2#32
  let v470 : BitVec 32 := Scalar.muli v32 c2_i32_280
  let v471 : BitVec 32 := Scalar.addi v469 v470
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_281 : BitVec 32 := 1#32
  let v472 : BitVec 32 := Scalar.muli v8 c1_i32_281
  let v473 : BitVec 32 := Scalar.addi v471 v472
  v473.toNat
def k0_mult117 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c128_i32_284 : BitVec 32 := 128#32
  let v480 : BitVec 32 := Scalar.addi v11 c128_i32_284
  v480
def k0_mult118 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c128_i32_286 : BitVec 32 := 128#32
  let v486 : BitVec 32 := Scalar.addi v11 c128_i32_286
  v486
def k0_mult119 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c128_i32_288 : BitVec 32 := 128#32
  let v491 : BitVec 32 := Scalar.addi v11 c128_i32_288
  v491
def k0_mult120 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c64_i32_298 : BitVec 32 := 64#32
  let v505 : BitVec 32 := Scalar.addi v15 c64_i32_298
  v505
def k0_mult121 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c64_i32_299 : BitVec 32 := 64#32
  let v507 : BitVec 32 := Scalar.addi v15 c64_i32_299
  v507
def k0_off11 (d0 : Dev nD) (c64_i32_299 : BitVec 32) : Fin 2 → Nat :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let v507 : BitVec 32 := Scalar.addi v15 c64_i32_299
  let v508 : BitVec 32 := v507
  let c0_i32_306 : BitVec 32 := 0#32
  ![v508.toNat, 0]
def k0_dev19 (d0 : Dev nD) : Nat :=
  let c0_i32_303 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_302 : BitVec 32 := 4#32
  let v509 : BitVec 32 := Scalar.muli v2 c4_i32_302
  let v510 : BitVec 32 := Scalar.addi c0_i32_303 v509
  let c1_i32_19 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_19 v5
  let c2_i32_304 : BitVec 32 := 2#32
  let v511 : BitVec 32 := Scalar.muli v32 c2_i32_304
  let v512 : BitVec 32 := Scalar.addi v510 v511
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_305 : BitVec 32 := 1#32
  let v513 : BitVec 32 := Scalar.muli v8 c1_i32_305
  let v514 : BitVec 32 := Scalar.addi v512 v513
  v514.toNat
def k0_mult122 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c64_i32_308 : BitVec 32 := 64#32
  let v521 : BitVec 32 := Scalar.addi v15 c64_i32_308
  v521
def k0_off12 (d0 : Dev nD) (c64_i32_308 : BitVec 32) : Fin 3 → Nat :=
  let c0_309 : Index := 0#32
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let v521 : BitVec 32 := Scalar.addi v15 c64_i32_308
  let v522 : BitVec 32 := v521
  let v523 : Index := Scalar.indexCast v522
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_14 : BitVec 32 := 512#32
  let v25 : BitVec 32 := Scalar.muli v8 c512_i32_14
  let v26 : BitVec 32 := v25
  let v524 : Index := Scalar.indexCast v26
  ![0, v523.toNat, v524.toNat]
def k0_mult123 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c64_i32_310 : BitVec 32 := 64#32
  let v527 : BitVec 32 := Scalar.addi v15 c64_i32_310
  v527
def k0_off13 (d0 : Dev nD) (c64_i32_310 : BitVec 32) : Fin 2 → Nat :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let v527 : BitVec 32 := Scalar.addi v15 c64_i32_310
  let v528 : BitVec 32 := v527
  let v529 : Index := Scalar.indexCast v528
  let c0_311 : Index := 0#32
  ![v529.toNat, 0]
def k0_mult124 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c64_i32_312 : BitVec 32 := 64#32
  let v532 : BitVec 32 := Scalar.addi v15 c64_i32_312
  v532
def k0_mult125 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c64_i32_322 : BitVec 32 := 64#32
  let v546 : BitVec 32 := Scalar.addi v19 c64_i32_322
  v546
def k0_mult126 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c64_i32_323 : BitVec 32 := 64#32
  let v548 : BitVec 32 := Scalar.addi v19 c64_i32_323
  v548
def k0_off14 (d0 : Dev nD) (c64_i32_323 : BitVec 32) : Fin 2 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let v548 : BitVec 32 := Scalar.addi v19 c64_i32_323
  let v549 : BitVec 32 := v548
  let c256_i32_330 : BitVec 32 := 256#32
  ![v549.toNat, 256]
def k0_dev20 (d0 : Dev nD) : Nat :=
  let c0_i32_327 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_18 v2
  let c4_i32_326 : BitVec 32 := 4#32
  let v550 : BitVec 32 := Scalar.muli v31 c4_i32_326
  let v551 : BitVec 32 := Scalar.addi c0_i32_327 v550
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_328 : BitVec 32 := 2#32
  let v552 : BitVec 32 := Scalar.muli v5 c2_i32_328
  let v553 : BitVec 32 := Scalar.addi v551 v552
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_329 : BitVec 32 := 1#32
  let v554 : BitVec 32 := Scalar.muli v8 c1_i32_329
  let v555 : BitVec 32 := Scalar.addi v553 v554
  v555.toNat
def k0_mult127 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c64_i32_332 : BitVec 32 := 64#32
  let v562 : BitVec 32 := Scalar.addi v19 c64_i32_332
  v562
def k0_off15 (d0 : Dev nD) (c64_i32_332 : BitVec 32) : Fin 3 → Nat :=
  let c0_333 : Index := 0#32
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let v562 : BitVec 32 := Scalar.addi v19 c64_i32_332
  let v563 : BitVec 32 := v562
  let v564 : Index := Scalar.indexCast v563
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_14 : BitVec 32 := 512#32
  let v25 : BitVec 32 := Scalar.muli v8 c512_i32_14
  let v26 : BitVec 32 := v25
  let v565 : Index := Scalar.indexCast v26
  ![0, v564.toNat, v565.toNat]
def k0_mult128 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c64_i32_334 : BitVec 32 := 64#32
  let v568 : BitVec 32 := Scalar.addi v19 c64_i32_334
  v568
def k0_off16 (d0 : Dev nD) (c64_i32_334 : BitVec 32) : Fin 2 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let v568 : BitVec 32 := Scalar.addi v19 c64_i32_334
  let v569 : BitVec 32 := v568
  let v570 : Index := Scalar.indexCast v569
  let c0_335 : Index := 0#32
  ![v570.toNat, 0]
def k0_mult129 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c64_i32_336 : BitVec 32 := 64#32
  let v573 : BitVec 32 := Scalar.addi v19 c64_i32_336
  v573
def k0_mult130 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c192_i32_346 : BitVec 32 := 192#32
  let v587 : BitVec 32 := Scalar.addi v11 c192_i32_346
  v587
def k0_mult131 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c192_i32_347 : BitVec 32 := 192#32
  let v589 : BitVec 32 := Scalar.addi v11 c192_i32_347
  v589
def k0_dev21 (d0 : Dev nD) : Nat :=
  let c0_i32_351 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_18 v2
  let c4_i32_350 : BitVec 32 := 4#32
  let v591 : BitVec 32 := Scalar.muli v31 c4_i32_350
  let v592 : BitVec 32 := Scalar.addi c0_i32_351 v591
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_352 : BitVec 32 := 2#32
  let v593 : BitVec 32 := Scalar.muli v5 c2_i32_352
  let v594 : BitVec 32 := Scalar.addi v592 v593
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_353 : BitVec 32 := 1#32
  let v595 : BitVec 32 := Scalar.muli v8 c1_i32_353
  let v596 : BitVec 32 := Scalar.addi v594 v595
  v596.toNat
def k0_mult132 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c192_i32_356 : BitVec 32 := 192#32
  let v603 : BitVec 32 := Scalar.addi v11 c192_i32_356
  v603
def k0_mult133 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c192_i32_357 : BitVec 32 := 192#32
  let v605 : BitVec 32 := Scalar.addi v11 c192_i32_357
  v605
def k0_dev22 (d0 : Dev nD) : Nat :=
  let c0_i32_361 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_360 : BitVec 32 := 4#32
  let v607 : BitVec 32 := Scalar.muli v2 c4_i32_360
  let v608 : BitVec 32 := Scalar.addi c0_i32_361 v607
  let c1_i32_19 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_19 v5
  let c2_i32_362 : BitVec 32 := 2#32
  let v609 : BitVec 32 := Scalar.muli v32 c2_i32_362
  let v610 : BitVec 32 := Scalar.addi v608 v609
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_363 : BitVec 32 := 1#32
  let v611 : BitVec 32 := Scalar.muli v8 c1_i32_363
  let v612 : BitVec 32 := Scalar.addi v610 v611
  v612.toNat
def k0_mult134 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c192_i32_366 : BitVec 32 := 192#32
  let v619 : BitVec 32 := Scalar.addi v11 c192_i32_366
  v619
def k0_mult135 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c192_i32_368 : BitVec 32 := 192#32
  let v625 : BitVec 32 := Scalar.addi v11 c192_i32_368
  v625
def k0_mult136 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c192_i32_370 : BitVec 32 := 192#32
  let v630 : BitVec 32 := Scalar.addi v11 c192_i32_370
  v630
def k0_mult137 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c128_i32_380 : BitVec 32 := 128#32
  let v644 : BitVec 32 := Scalar.addi v15 c128_i32_380
  v644
def k0_mult138 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c128_i32_381 : BitVec 32 := 128#32
  let v646 : BitVec 32 := Scalar.addi v15 c128_i32_381
  v646
def k0_dev23 (d0 : Dev nD) : Nat :=
  let c0_i32_385 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_384 : BitVec 32 := 4#32
  let v648 : BitVec 32 := Scalar.muli v2 c4_i32_384
  let v649 : BitVec 32 := Scalar.addi c0_i32_385 v648
  let c1_i32_19 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_19 v5
  let c2_i32_386 : BitVec 32 := 2#32
  let v650 : BitVec 32 := Scalar.muli v32 c2_i32_386
  let v651 : BitVec 32 := Scalar.addi v649 v650
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_387 : BitVec 32 := 1#32
  let v652 : BitVec 32 := Scalar.muli v8 c1_i32_387
  let v653 : BitVec 32 := Scalar.addi v651 v652
  v653.toNat
def k0_mult139 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c128_i32_390 : BitVec 32 := 128#32
  let v660 : BitVec 32 := Scalar.addi v15 c128_i32_390
  v660
def k0_mult140 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c128_i32_392 : BitVec 32 := 128#32
  let v666 : BitVec 32 := Scalar.addi v15 c128_i32_392
  v666
def k0_mult141 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c128_i32_394 : BitVec 32 := 128#32
  let v671 : BitVec 32 := Scalar.addi v15 c128_i32_394
  v671
def k0_mult142 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c128_i32_404 : BitVec 32 := 128#32
  let v685 : BitVec 32 := Scalar.addi v19 c128_i32_404
  v685
def k0_mult143 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c128_i32_405 : BitVec 32 := 128#32
  let v687 : BitVec 32 := Scalar.addi v19 c128_i32_405
  v687
def k0_dev24 (d0 : Dev nD) : Nat :=
  let c0_i32_409 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_18 v2
  let c4_i32_408 : BitVec 32 := 4#32
  let v689 : BitVec 32 := Scalar.muli v31 c4_i32_408
  let v690 : BitVec 32 := Scalar.addi c0_i32_409 v689
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_410 : BitVec 32 := 2#32
  let v691 : BitVec 32 := Scalar.muli v5 c2_i32_410
  let v692 : BitVec 32 := Scalar.addi v690 v691
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_411 : BitVec 32 := 1#32
  let v693 : BitVec 32 := Scalar.muli v8 c1_i32_411
  let v694 : BitVec 32 := Scalar.addi v692 v693
  v694.toNat
def k0_mult144 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c128_i32_414 : BitVec 32 := 128#32
  let v701 : BitVec 32 := Scalar.addi v19 c128_i32_414
  v701
def k0_mult145 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c128_i32_416 : BitVec 32 := 128#32
  let v707 : BitVec 32 := Scalar.addi v19 c128_i32_416
  v707
def k0_mult146 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c128_i32_418 : BitVec 32 := 128#32
  let v712 : BitVec 32 := Scalar.addi v19 c128_i32_418
  v712
def k0_mult147 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c256_i32_428 : BitVec 32 := 256#32
  let v726 : BitVec 32 := Scalar.addi v11 c256_i32_428
  v726
def k0_mult148 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c256_i32_429 : BitVec 32 := 256#32
  let v728 : BitVec 32 := Scalar.addi v11 c256_i32_429
  v728
def k0_dev25 (d0 : Dev nD) : Nat :=
  let c0_i32_433 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_18 v2
  let c4_i32_432 : BitVec 32 := 4#32
  let v730 : BitVec 32 := Scalar.muli v31 c4_i32_432
  let v731 : BitVec 32 := Scalar.addi c0_i32_433 v730
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_434 : BitVec 32 := 2#32
  let v732 : BitVec 32 := Scalar.muli v5 c2_i32_434
  let v733 : BitVec 32 := Scalar.addi v731 v732
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_435 : BitVec 32 := 1#32
  let v734 : BitVec 32 := Scalar.muli v8 c1_i32_435
  let v735 : BitVec 32 := Scalar.addi v733 v734
  v735.toNat
def k0_mult149 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c256_i32_438 : BitVec 32 := 256#32
  let v742 : BitVec 32 := Scalar.addi v11 c256_i32_438
  v742
def k0_mult150 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c256_i32_439 : BitVec 32 := 256#32
  let v744 : BitVec 32 := Scalar.addi v11 c256_i32_439
  v744
def k0_dev26 (d0 : Dev nD) : Nat :=
  let c0_i32_443 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_442 : BitVec 32 := 4#32
  let v746 : BitVec 32 := Scalar.muli v2 c4_i32_442
  let v747 : BitVec 32 := Scalar.addi c0_i32_443 v746
  let c1_i32_19 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_19 v5
  let c2_i32_444 : BitVec 32 := 2#32
  let v748 : BitVec 32 := Scalar.muli v32 c2_i32_444
  let v749 : BitVec 32 := Scalar.addi v747 v748
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_445 : BitVec 32 := 1#32
  let v750 : BitVec 32 := Scalar.muli v8 c1_i32_445
  let v751 : BitVec 32 := Scalar.addi v749 v750
  v751.toNat
def k0_mult151 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c256_i32_448 : BitVec 32 := 256#32
  let v758 : BitVec 32 := Scalar.addi v11 c256_i32_448
  v758
def k0_mult152 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c256_i32_450 : BitVec 32 := 256#32
  let v764 : BitVec 32 := Scalar.addi v11 c256_i32_450
  v764
def k0_mult153 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c256_i32_452 : BitVec 32 := 256#32
  let v769 : BitVec 32 := Scalar.addi v11 c256_i32_452
  v769
def k0_mult154 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c192_i32_462 : BitVec 32 := 192#32
  let v783 : BitVec 32 := Scalar.addi v15 c192_i32_462
  v783
def k0_mult155 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c192_i32_463 : BitVec 32 := 192#32
  let v785 : BitVec 32 := Scalar.addi v15 c192_i32_463
  v785
def k0_dev27 (d0 : Dev nD) : Nat :=
  let c0_i32_467 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_466 : BitVec 32 := 4#32
  let v787 : BitVec 32 := Scalar.muli v2 c4_i32_466
  let v788 : BitVec 32 := Scalar.addi c0_i32_467 v787
  let c1_i32_19 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_19 v5
  let c2_i32_468 : BitVec 32 := 2#32
  let v789 : BitVec 32 := Scalar.muli v32 c2_i32_468
  let v790 : BitVec 32 := Scalar.addi v788 v789
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_469 : BitVec 32 := 1#32
  let v791 : BitVec 32 := Scalar.muli v8 c1_i32_469
  let v792 : BitVec 32 := Scalar.addi v790 v791
  v792.toNat
def k0_mult156 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c192_i32_472 : BitVec 32 := 192#32
  let v799 : BitVec 32 := Scalar.addi v15 c192_i32_472
  v799
def k0_mult157 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c192_i32_474 : BitVec 32 := 192#32
  let v805 : BitVec 32 := Scalar.addi v15 c192_i32_474
  v805
def k0_mult158 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c192_i32_476 : BitVec 32 := 192#32
  let v810 : BitVec 32 := Scalar.addi v15 c192_i32_476
  v810
def k0_mult159 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c192_i32_486 : BitVec 32 := 192#32
  let v824 : BitVec 32 := Scalar.addi v19 c192_i32_486
  v824
def k0_mult160 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c192_i32_487 : BitVec 32 := 192#32
  let v826 : BitVec 32 := Scalar.addi v19 c192_i32_487
  v826
def k0_dev28 (d0 : Dev nD) : Nat :=
  let c0_i32_491 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_18 v2
  let c4_i32_490 : BitVec 32 := 4#32
  let v828 : BitVec 32 := Scalar.muli v31 c4_i32_490
  let v829 : BitVec 32 := Scalar.addi c0_i32_491 v828
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_492 : BitVec 32 := 2#32
  let v830 : BitVec 32 := Scalar.muli v5 c2_i32_492
  let v831 : BitVec 32 := Scalar.addi v829 v830
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_493 : BitVec 32 := 1#32
  let v832 : BitVec 32 := Scalar.muli v8 c1_i32_493
  let v833 : BitVec 32 := Scalar.addi v831 v832
  v833.toNat
def k0_mult161 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c192_i32_496 : BitVec 32 := 192#32
  let v840 : BitVec 32 := Scalar.addi v19 c192_i32_496
  v840
def k0_mult162 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c192_i32_498 : BitVec 32 := 192#32
  let v846 : BitVec 32 := Scalar.addi v19 c192_i32_498
  v846
def k0_mult163 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c192_i32_500 : BitVec 32 := 192#32
  let v851 : BitVec 32 := Scalar.addi v19 c192_i32_500
  v851
def k0_mult164 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c320_i32_510 : BitVec 32 := 320#32
  let v865 : BitVec 32 := Scalar.addi v11 c320_i32_510
  v865
def k0_mult165 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c320_i32_511 : BitVec 32 := 320#32
  let v867 : BitVec 32 := Scalar.addi v11 c320_i32_511
  v867
def k0_dev29 (d0 : Dev nD) : Nat :=
  let c0_i32_515 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_18 v2
  let c4_i32_514 : BitVec 32 := 4#32
  let v869 : BitVec 32 := Scalar.muli v31 c4_i32_514
  let v870 : BitVec 32 := Scalar.addi c0_i32_515 v869
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_516 : BitVec 32 := 2#32
  let v871 : BitVec 32 := Scalar.muli v5 c2_i32_516
  let v872 : BitVec 32 := Scalar.addi v870 v871
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_517 : BitVec 32 := 1#32
  let v873 : BitVec 32 := Scalar.muli v8 c1_i32_517
  let v874 : BitVec 32 := Scalar.addi v872 v873
  v874.toNat
def k0_mult166 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c320_i32_520 : BitVec 32 := 320#32
  let v881 : BitVec 32 := Scalar.addi v11 c320_i32_520
  v881
def k0_mult167 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c320_i32_521 : BitVec 32 := 320#32
  let v883 : BitVec 32 := Scalar.addi v11 c320_i32_521
  v883
def k0_dev30 (d0 : Dev nD) : Nat :=
  let c0_i32_525 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_524 : BitVec 32 := 4#32
  let v885 : BitVec 32 := Scalar.muli v2 c4_i32_524
  let v886 : BitVec 32 := Scalar.addi c0_i32_525 v885
  let c1_i32_19 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_19 v5
  let c2_i32_526 : BitVec 32 := 2#32
  let v887 : BitVec 32 := Scalar.muli v32 c2_i32_526
  let v888 : BitVec 32 := Scalar.addi v886 v887
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_527 : BitVec 32 := 1#32
  let v889 : BitVec 32 := Scalar.muli v8 c1_i32_527
  let v890 : BitVec 32 := Scalar.addi v888 v889
  v890.toNat
def k0_mult168 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c320_i32_530 : BitVec 32 := 320#32
  let v897 : BitVec 32 := Scalar.addi v11 c320_i32_530
  v897
def k0_mult169 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c320_i32_532 : BitVec 32 := 320#32
  let v903 : BitVec 32 := Scalar.addi v11 c320_i32_532
  v903
def k0_mult170 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c320_i32_534 : BitVec 32 := 320#32
  let v908 : BitVec 32 := Scalar.addi v11 c320_i32_534
  v908
def k0_mult171 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c256_i32_544 : BitVec 32 := 256#32
  let v922 : BitVec 32 := Scalar.addi v15 c256_i32_544
  v922
def k0_mult172 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c256_i32_545 : BitVec 32 := 256#32
  let v924 : BitVec 32 := Scalar.addi v15 c256_i32_545
  v924
def k0_dev31 (d0 : Dev nD) : Nat :=
  let c0_i32_549 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_548 : BitVec 32 := 4#32
  let v926 : BitVec 32 := Scalar.muli v2 c4_i32_548
  let v927 : BitVec 32 := Scalar.addi c0_i32_549 v926
  let c1_i32_19 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_19 v5
  let c2_i32_550 : BitVec 32 := 2#32
  let v928 : BitVec 32 := Scalar.muli v32 c2_i32_550
  let v929 : BitVec 32 := Scalar.addi v927 v928
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_551 : BitVec 32 := 1#32
  let v930 : BitVec 32 := Scalar.muli v8 c1_i32_551
  let v931 : BitVec 32 := Scalar.addi v929 v930
  v931.toNat
def k0_mult173 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c256_i32_554 : BitVec 32 := 256#32
  let v938 : BitVec 32 := Scalar.addi v15 c256_i32_554
  v938
def k0_mult174 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c256_i32_556 : BitVec 32 := 256#32
  let v944 : BitVec 32 := Scalar.addi v15 c256_i32_556
  v944
def k0_mult175 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c256_i32_558 : BitVec 32 := 256#32
  let v949 : BitVec 32 := Scalar.addi v15 c256_i32_558
  v949
def k0_mult176 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c256_i32_568 : BitVec 32 := 256#32
  let v963 : BitVec 32 := Scalar.addi v19 c256_i32_568
  v963
def k0_mult177 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c256_i32_569 : BitVec 32 := 256#32
  let v965 : BitVec 32 := Scalar.addi v19 c256_i32_569
  v965
def k0_dev32 (d0 : Dev nD) : Nat :=
  let c0_i32_573 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_18 v2
  let c4_i32_572 : BitVec 32 := 4#32
  let v967 : BitVec 32 := Scalar.muli v31 c4_i32_572
  let v968 : BitVec 32 := Scalar.addi c0_i32_573 v967
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_574 : BitVec 32 := 2#32
  let v969 : BitVec 32 := Scalar.muli v5 c2_i32_574
  let v970 : BitVec 32 := Scalar.addi v968 v969
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_575 : BitVec 32 := 1#32
  let v971 : BitVec 32 := Scalar.muli v8 c1_i32_575
  let v972 : BitVec 32 := Scalar.addi v970 v971
  v972.toNat
def k0_mult178 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c256_i32_578 : BitVec 32 := 256#32
  let v979 : BitVec 32 := Scalar.addi v19 c256_i32_578
  v979
def k0_mult179 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c256_i32_580 : BitVec 32 := 256#32
  let v985 : BitVec 32 := Scalar.addi v19 c256_i32_580
  v985
def k0_mult180 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c256_i32_582 : BitVec 32 := 256#32
  let v990 : BitVec 32 := Scalar.addi v19 c256_i32_582
  v990
def k0_mult181 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c384_i32_592 : BitVec 32 := 384#32
  let v1004 : BitVec 32 := Scalar.addi v11 c384_i32_592
  v1004
def k0_mult182 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c384_i32_593 : BitVec 32 := 384#32
  let v1006 : BitVec 32 := Scalar.addi v11 c384_i32_593
  v1006
def k0_dev33 (d0 : Dev nD) : Nat :=
  let c0_i32_597 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_18 v2
  let c4_i32_596 : BitVec 32 := 4#32
  let v1008 : BitVec 32 := Scalar.muli v31 c4_i32_596
  let v1009 : BitVec 32 := Scalar.addi c0_i32_597 v1008
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_598 : BitVec 32 := 2#32
  let v1010 : BitVec 32 := Scalar.muli v5 c2_i32_598
  let v1011 : BitVec 32 := Scalar.addi v1009 v1010
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_599 : BitVec 32 := 1#32
  let v1012 : BitVec 32 := Scalar.muli v8 c1_i32_599
  let v1013 : BitVec 32 := Scalar.addi v1011 v1012
  v1013.toNat
def k0_mult183 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c384_i32_602 : BitVec 32 := 384#32
  let v1020 : BitVec 32 := Scalar.addi v11 c384_i32_602
  v1020
def k0_mult184 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c384_i32_603 : BitVec 32 := 384#32
  let v1022 : BitVec 32 := Scalar.addi v11 c384_i32_603
  v1022
def k0_dev34 (d0 : Dev nD) : Nat :=
  let c0_i32_607 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_606 : BitVec 32 := 4#32
  let v1024 : BitVec 32 := Scalar.muli v2 c4_i32_606
  let v1025 : BitVec 32 := Scalar.addi c0_i32_607 v1024
  let c1_i32_19 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_19 v5
  let c2_i32_608 : BitVec 32 := 2#32
  let v1026 : BitVec 32 := Scalar.muli v32 c2_i32_608
  let v1027 : BitVec 32 := Scalar.addi v1025 v1026
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_609 : BitVec 32 := 1#32
  let v1028 : BitVec 32 := Scalar.muli v8 c1_i32_609
  let v1029 : BitVec 32 := Scalar.addi v1027 v1028
  v1029.toNat
def k0_mult185 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c384_i32_612 : BitVec 32 := 384#32
  let v1036 : BitVec 32 := Scalar.addi v11 c384_i32_612
  v1036
def k0_mult186 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c384_i32_614 : BitVec 32 := 384#32
  let v1042 : BitVec 32 := Scalar.addi v11 c384_i32_614
  v1042
def k0_mult187 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c384_i32_616 : BitVec 32 := 384#32
  let v1047 : BitVec 32 := Scalar.addi v11 c384_i32_616
  v1047
def k0_mult188 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c320_i32_626 : BitVec 32 := 320#32
  let v1061 : BitVec 32 := Scalar.addi v15 c320_i32_626
  v1061
def k0_mult189 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c320_i32_627 : BitVec 32 := 320#32
  let v1063 : BitVec 32 := Scalar.addi v15 c320_i32_627
  v1063
def k0_dev35 (d0 : Dev nD) : Nat :=
  let c0_i32_631 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_630 : BitVec 32 := 4#32
  let v1065 : BitVec 32 := Scalar.muli v2 c4_i32_630
  let v1066 : BitVec 32 := Scalar.addi c0_i32_631 v1065
  let c1_i32_19 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_19 v5
  let c2_i32_632 : BitVec 32 := 2#32
  let v1067 : BitVec 32 := Scalar.muli v32 c2_i32_632
  let v1068 : BitVec 32 := Scalar.addi v1066 v1067
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_633 : BitVec 32 := 1#32
  let v1069 : BitVec 32 := Scalar.muli v8 c1_i32_633
  let v1070 : BitVec 32 := Scalar.addi v1068 v1069
  v1070.toNat
def k0_mult190 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c320_i32_636 : BitVec 32 := 320#32
  let v1077 : BitVec 32 := Scalar.addi v15 c320_i32_636
  v1077
def k0_mult191 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c320_i32_638 : BitVec 32 := 320#32
  let v1083 : BitVec 32 := Scalar.addi v15 c320_i32_638
  v1083
def k0_mult192 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c320_i32_640 : BitVec 32 := 320#32
  let v1088 : BitVec 32 := Scalar.addi v15 c320_i32_640
  v1088
def k0_mult193 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c320_i32_650 : BitVec 32 := 320#32
  let v1102 : BitVec 32 := Scalar.addi v19 c320_i32_650
  v1102
def k0_mult194 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c320_i32_651 : BitVec 32 := 320#32
  let v1104 : BitVec 32 := Scalar.addi v19 c320_i32_651
  v1104
def k0_dev36 (d0 : Dev nD) : Nat :=
  let c0_i32_655 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_18 v2
  let c4_i32_654 : BitVec 32 := 4#32
  let v1106 : BitVec 32 := Scalar.muli v31 c4_i32_654
  let v1107 : BitVec 32 := Scalar.addi c0_i32_655 v1106
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_656 : BitVec 32 := 2#32
  let v1108 : BitVec 32 := Scalar.muli v5 c2_i32_656
  let v1109 : BitVec 32 := Scalar.addi v1107 v1108
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_657 : BitVec 32 := 1#32
  let v1110 : BitVec 32 := Scalar.muli v8 c1_i32_657
  let v1111 : BitVec 32 := Scalar.addi v1109 v1110
  v1111.toNat
def k0_mult195 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c320_i32_660 : BitVec 32 := 320#32
  let v1118 : BitVec 32 := Scalar.addi v19 c320_i32_660
  v1118
def k0_mult196 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c320_i32_662 : BitVec 32 := 320#32
  let v1124 : BitVec 32 := Scalar.addi v19 c320_i32_662
  v1124
def k0_mult197 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c320_i32_664 : BitVec 32 := 320#32
  let v1129 : BitVec 32 := Scalar.addi v19 c320_i32_664
  v1129
def k0_mult198 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c448_i32_674 : BitVec 32 := 448#32
  let v1143 : BitVec 32 := Scalar.addi v11 c448_i32_674
  v1143
def k0_mult199 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c448_i32_675 : BitVec 32 := 448#32
  let v1145 : BitVec 32 := Scalar.addi v11 c448_i32_675
  v1145
def k0_dev37 (d0 : Dev nD) : Nat :=
  let c0_i32_679 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_18 v2
  let c4_i32_678 : BitVec 32 := 4#32
  let v1147 : BitVec 32 := Scalar.muli v31 c4_i32_678
  let v1148 : BitVec 32 := Scalar.addi c0_i32_679 v1147
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_680 : BitVec 32 := 2#32
  let v1149 : BitVec 32 := Scalar.muli v5 c2_i32_680
  let v1150 : BitVec 32 := Scalar.addi v1148 v1149
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_681 : BitVec 32 := 1#32
  let v1151 : BitVec 32 := Scalar.muli v8 c1_i32_681
  let v1152 : BitVec 32 := Scalar.addi v1150 v1151
  v1152.toNat
def k0_mult200 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c448_i32_684 : BitVec 32 := 448#32
  let v1159 : BitVec 32 := Scalar.addi v11 c448_i32_684
  v1159
def k0_mult201 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c448_i32_685 : BitVec 32 := 448#32
  let v1161 : BitVec 32 := Scalar.addi v11 c448_i32_685
  v1161
def k0_dev38 (d0 : Dev nD) : Nat :=
  let c0_i32_689 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_688 : BitVec 32 := 4#32
  let v1163 : BitVec 32 := Scalar.muli v2 c4_i32_688
  let v1164 : BitVec 32 := Scalar.addi c0_i32_689 v1163
  let c1_i32_19 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_19 v5
  let c2_i32_690 : BitVec 32 := 2#32
  let v1165 : BitVec 32 := Scalar.muli v32 c2_i32_690
  let v1166 : BitVec 32 := Scalar.addi v1164 v1165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_691 : BitVec 32 := 1#32
  let v1167 : BitVec 32 := Scalar.muli v8 c1_i32_691
  let v1168 : BitVec 32 := Scalar.addi v1166 v1167
  v1168.toNat
def k0_mult202 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c448_i32_694 : BitVec 32 := 448#32
  let v1175 : BitVec 32 := Scalar.addi v11 c448_i32_694
  v1175
def k0_mult203 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c448_i32_696 : BitVec 32 := 448#32
  let v1181 : BitVec 32 := Scalar.addi v11 c448_i32_696
  v1181
def k0_mult204 (d0 : Dev nD) : BitVec 32 :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  let c448_i32_698 : BitVec 32 := 448#32
  let v1186 : BitVec 32 := Scalar.addi v11 c448_i32_698
  v1186
def k0_mult205 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c384_i32_708 : BitVec 32 := 384#32
  let v1200 : BitVec 32 := Scalar.addi v15 c384_i32_708
  v1200
def k0_mult206 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c384_i32_709 : BitVec 32 := 384#32
  let v1202 : BitVec 32 := Scalar.addi v15 c384_i32_709
  v1202
def k0_dev39 (d0 : Dev nD) : Nat :=
  let c0_i32_713 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_712 : BitVec 32 := 4#32
  let v1204 : BitVec 32 := Scalar.muli v2 c4_i32_712
  let v1205 : BitVec 32 := Scalar.addi c0_i32_713 v1204
  let c1_i32_19 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_19 v5
  let c2_i32_714 : BitVec 32 := 2#32
  let v1206 : BitVec 32 := Scalar.muli v32 c2_i32_714
  let v1207 : BitVec 32 := Scalar.addi v1205 v1206
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_715 : BitVec 32 := 1#32
  let v1208 : BitVec 32 := Scalar.muli v8 c1_i32_715
  let v1209 : BitVec 32 := Scalar.addi v1207 v1208
  v1209.toNat
def k0_mult207 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c384_i32_718 : BitVec 32 := 384#32
  let v1216 : BitVec 32 := Scalar.addi v15 c384_i32_718
  v1216
def k0_mult208 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c384_i32_720 : BitVec 32 := 384#32
  let v1222 : BitVec 32 := Scalar.addi v15 c384_i32_720
  v1222
def k0_mult209 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c384_i32_722 : BitVec 32 := 384#32
  let v1227 : BitVec 32 := Scalar.addi v15 c384_i32_722
  v1227
def k0_mult210 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c384_i32_732 : BitVec 32 := 384#32
  let v1241 : BitVec 32 := Scalar.addi v19 c384_i32_732
  v1241
def k0_mult211 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c384_i32_733 : BitVec 32 := 384#32
  let v1243 : BitVec 32 := Scalar.addi v19 c384_i32_733
  v1243
def k0_dev40 (d0 : Dev nD) : Nat :=
  let c0_i32_737 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_18 v2
  let c4_i32_736 : BitVec 32 := 4#32
  let v1245 : BitVec 32 := Scalar.muli v31 c4_i32_736
  let v1246 : BitVec 32 := Scalar.addi c0_i32_737 v1245
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_738 : BitVec 32 := 2#32
  let v1247 : BitVec 32 := Scalar.muli v5 c2_i32_738
  let v1248 : BitVec 32 := Scalar.addi v1246 v1247
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_739 : BitVec 32 := 1#32
  let v1249 : BitVec 32 := Scalar.muli v8 c1_i32_739
  let v1250 : BitVec 32 := Scalar.addi v1248 v1249
  v1250.toNat
def k0_mult212 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c384_i32_742 : BitVec 32 := 384#32
  let v1257 : BitVec 32 := Scalar.addi v19 c384_i32_742
  v1257
def k0_mult213 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c384_i32_744 : BitVec 32 := 384#32
  let v1263 : BitVec 32 := Scalar.addi v19 c384_i32_744
  v1263
def k0_mult214 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c384_i32_746 : BitVec 32 := 384#32
  let v1268 : BitVec 32 := Scalar.addi v19 c384_i32_746
  v1268
def k0_mult215 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c448_i32_756 : BitVec 32 := 448#32
  let v1282 : BitVec 32 := Scalar.addi v15 c448_i32_756
  v1282
def k0_mult216 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c448_i32_757 : BitVec 32 := 448#32
  let v1284 : BitVec 32 := Scalar.addi v15 c448_i32_757
  v1284
def k0_dev41 (d0 : Dev nD) : Nat :=
  let c0_i32_761 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_760 : BitVec 32 := 4#32
  let v1286 : BitVec 32 := Scalar.muli v2 c4_i32_760
  let v1287 : BitVec 32 := Scalar.addi c0_i32_761 v1286
  let c1_i32_19 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_19 v5
  let c2_i32_762 : BitVec 32 := 2#32
  let v1288 : BitVec 32 := Scalar.muli v32 c2_i32_762
  let v1289 : BitVec 32 := Scalar.addi v1287 v1288
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_763 : BitVec 32 := 1#32
  let v1290 : BitVec 32 := Scalar.muli v8 c1_i32_763
  let v1291 : BitVec 32 := Scalar.addi v1289 v1290
  v1291.toNat
def k0_mult217 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c448_i32_766 : BitVec 32 := 448#32
  let v1298 : BitVec 32 := Scalar.addi v15 c448_i32_766
  v1298
def k0_mult218 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c448_i32_768 : BitVec 32 := 448#32
  let v1304 : BitVec 32 := Scalar.addi v15 c448_i32_768
  v1304
def k0_mult219 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c448_i32_770 : BitVec 32 := 448#32
  let v1309 : BitVec 32 := Scalar.addi v15 c448_i32_770
  v1309
def k0_mult220 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c448_i32_780 : BitVec 32 := 448#32
  let v1323 : BitVec 32 := Scalar.addi v19 c448_i32_780
  v1323
def k0_mult221 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c448_i32_781 : BitVec 32 := 448#32
  let v1325 : BitVec 32 := Scalar.addi v19 c448_i32_781
  v1325
def k0_dev42 (d0 : Dev nD) : Nat :=
  let c0_i32_785 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.subi c1_i32_18 v2
  let c4_i32_784 : BitVec 32 := 4#32
  let v1327 : BitVec 32 := Scalar.muli v31 c4_i32_784
  let v1328 : BitVec 32 := Scalar.addi c0_i32_785 v1327
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_786 : BitVec 32 := 2#32
  let v1329 : BitVec 32 := Scalar.muli v5 c2_i32_786
  let v1330 : BitVec 32 := Scalar.addi v1328 v1329
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_787 : BitVec 32 := 1#32
  let v1331 : BitVec 32 := Scalar.muli v8 c1_i32_787
  let v1332 : BitVec 32 := Scalar.addi v1330 v1331
  v1332.toNat
def k0_mult222 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c448_i32_790 : BitVec 32 := 448#32
  let v1339 : BitVec 32 := Scalar.addi v19 c448_i32_790
  v1339
def k0_mult223 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c448_i32_792 : BitVec 32 := 448#32
  let v1345 : BitVec 32 := Scalar.addi v19 c448_i32_792
  v1345
def k0_mult224 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c448_i32_794 : BitVec 32 := 448#32
  let v1350 : BitVec 32 := Scalar.addi v19 c448_i32_794
  v1350
def k0_mult225 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c0_i32_804 : BitVec 32 := 0#32
  let v1364 : BitVec 32 := Scalar.addi v15 c0_i32_804
  v1364
def k0_mult226 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c0_i32_806 : BitVec 32 := 0#32
  let v1370 : BitVec 32 := Scalar.addi v15 c0_i32_806
  v1370
def k0_mult227 (d0 : Dev nD) : BitVec 32 :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_4 v2
  let v13 : BitVec 32 := Scalar.muli c2_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c512_i32_6 : BitVec 32 := 512#32
  let v15 : BitVec 32 := Scalar.muli v14 c512_i32_6
  let c0_i32_808 : BitVec 32 := 0#32
  let v1375 : BitVec 32 := Scalar.addi v15 c0_i32_808
  v1375
def k0_mult228 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c0_i32_818 : BitVec 32 := 0#32
  let v1389 : BitVec 32 := Scalar.addi v19 c0_i32_818
  v1389
def k0_mult229 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c0_i32_820 : BitVec 32 := 0#32
  let v1395 : BitVec 32 := Scalar.addi v19 c0_i32_820
  v1395
def k0_mult230 (d0 : Dev nD) : BitVec 32 :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.muli c2_i32_7 v2
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let v18 : BitVec 32 := Scalar.addi v16 v17
  let c512_i32_9 : BitVec 32 := 512#32
  let v19 : BitVec 32 := Scalar.muli v18 c512_i32_9
  let c0_i32_822 : BitVec 32 := 0#32
  let v1400 : BitVec 32 := Scalar.addi v19 c0_i32_822
  v1400
def k0_mult231 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c0_i32_832 : BitVec 32 := 0#32
  let v1414 : BitVec 32 := Scalar.addi v24 c0_i32_832
  v1414
def k0_off17 (d0 : Dev nD) (c0_i32_832 : BitVec 32) : Fin 3 → Nat :=
  let c0_833 : Index := 0#32
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let v1414 : BitVec 32 := Scalar.addi v24 c0_i32_832
  let v1415 : BitVec 32 := v1414
  let v1416 : Index := Scalar.indexCast v1415
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_14 : BitVec 32 := 512#32
  let v25 : BitVec 32 := Scalar.muli v8 c512_i32_14
  let v26 : BitVec 32 := v25
  let v1417 : Index := Scalar.indexCast v26
  ![0, v1416.toNat, v1417.toNat]
def k0_mult232 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c0_i32_834 : BitVec 32 := 0#32
  let v1420 : BitVec 32 := Scalar.addi v24 c0_i32_834
  v1420
def k0_off18 (d0 : Dev nD) (c0_i32_834 : BitVec 32) : Fin 2 → Nat :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let v1420 : BitVec 32 := Scalar.addi v24 c0_i32_834
  let v1421 : BitVec 32 := v1420
  let v1422 : Index := Scalar.indexCast v1421
  let c0_835 : Index := 0#32
  ![v1422.toNat, 0]
def k0_mult233 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c0_i32_836 : BitVec 32 := 0#32
  let v1425 : BitVec 32 := Scalar.addi v24 c0_i32_836
  v1425
def k0_off19 (d0 : Dev nD) (c64_i32_182 : BitVec 32) : Fin 2 → Nat :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let v315 : BitVec 32 := Scalar.addi v24 c64_i32_182
  let v316 : BitVec 32 := v315
  let c0_i32_844 : BitVec 32 := 0#32
  ![v316.toNat, 0]
def k0_off20 (d0 : Dev nD) (c64_i32_196 : BitVec 32) : Fin 2 → Nat :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let v336 : BitVec 32 := Scalar.addi v24 c64_i32_196
  let v337 : BitVec 32 := v336
  let c256_i32_852 : BitVec 32 := 256#32
  ![v337.toNat, 256]
def k0_mult234 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c64_i32_854 : BitVec 32 := 64#32
  let v1449 : BitVec 32 := Scalar.addi v24 c64_i32_854
  v1449
def k0_mult235 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c64_i32_856 : BitVec 32 := 64#32
  let v1455 : BitVec 32 := Scalar.addi v24 c64_i32_856
  v1455
def k0_mult236 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c64_i32_858 : BitVec 32 := 64#32
  let v1460 : BitVec 32 := Scalar.addi v24 c64_i32_858
  v1460
def k0_mult237 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c128_i32_876 : BitVec 32 := 128#32
  let v1484 : BitVec 32 := Scalar.addi v24 c128_i32_876
  v1484
def k0_mult238 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c128_i32_878 : BitVec 32 := 128#32
  let v1490 : BitVec 32 := Scalar.addi v24 c128_i32_878
  v1490
def k0_mult239 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c128_i32_880 : BitVec 32 := 128#32
  let v1495 : BitVec 32 := Scalar.addi v24 c128_i32_880
  v1495
def k0_mult240 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c192_i32_898 : BitVec 32 := 192#32
  let v1519 : BitVec 32 := Scalar.addi v24 c192_i32_898
  v1519
def k0_mult241 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c192_i32_900 : BitVec 32 := 192#32
  let v1525 : BitVec 32 := Scalar.addi v24 c192_i32_900
  v1525
def k0_mult242 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c192_i32_902 : BitVec 32 := 192#32
  let v1530 : BitVec 32 := Scalar.addi v24 c192_i32_902
  v1530
def k0_mult243 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c256_i32_920 : BitVec 32 := 256#32
  let v1554 : BitVec 32 := Scalar.addi v24 c256_i32_920
  v1554
def k0_mult244 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c256_i32_922 : BitVec 32 := 256#32
  let v1560 : BitVec 32 := Scalar.addi v24 c256_i32_922
  v1560
def k0_mult245 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c256_i32_924 : BitVec 32 := 256#32
  let v1565 : BitVec 32 := Scalar.addi v24 c256_i32_924
  v1565
def k0_mult246 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c320_i32_942 : BitVec 32 := 320#32
  let v1589 : BitVec 32 := Scalar.addi v24 c320_i32_942
  v1589
def k0_mult247 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c320_i32_944 : BitVec 32 := 320#32
  let v1595 : BitVec 32 := Scalar.addi v24 c320_i32_944
  v1595
def k0_mult248 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c320_i32_946 : BitVec 32 := 320#32
  let v1600 : BitVec 32 := Scalar.addi v24 c320_i32_946
  v1600
def k0_mult249 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c384_i32_964 : BitVec 32 := 384#32
  let v1624 : BitVec 32 := Scalar.addi v24 c384_i32_964
  v1624
def k0_mult250 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c384_i32_966 : BitVec 32 := 384#32
  let v1630 : BitVec 32 := Scalar.addi v24 c384_i32_966
  v1630
def k0_mult251 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c384_i32_968 : BitVec 32 := 384#32
  let v1635 : BitVec 32 := Scalar.addi v24 c384_i32_968
  v1635
def k0_mult252 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c448_i32_986 : BitVec 32 := 448#32
  let v1659 : BitVec 32 := Scalar.addi v24 c448_i32_986
  v1659
def k0_mult253 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c448_i32_988 : BitVec 32 := 448#32
  let v1665 : BitVec 32 := Scalar.addi v24 c448_i32_988
  v1665
def k0_mult254 (d0 : Dev nD) : BitVec 32 :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_10 v2
  let v21 : BitVec 32 := Scalar.muli c2_i32_11 v20
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_12 v5
  let v23 : BitVec 32 := Scalar.addi v21 v22
  let c512_i32_13 : BitVec 32 := 512#32
  let v24 : BitVec 32 := Scalar.muli v23 c512_i32_13
  let c448_i32_990 : BitVec 32 := 448#32
  let v1670 : BitVec 32 := Scalar.addi v24 c448_i32_990
  v1670
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2048x1024 : Shape := ⟨3, ![2, 2048, 1024]⟩
abbrev S_ : Shape := ⟨0, ![]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S_, .f32⟩
  | .hbm, ⟨2, _⟩ => ⟨S2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Plan.lean ====
/-
The plan of the exchange, as arithmetic on device and message numbers.

Eight devices sit on a 2 x 2 x 2 mesh, device `4x + 2y + z`. Each wants the sum of its own half of the columns
over the two values of `z`, for all 2048 rows; its partner along `z` holds the other summand. The rows are cut in
four quarters of eight chunks of 64 rows. A device receives its own quarter from its `z` partner, and the other
three by way of its `x` and `y` neighbours, who received theirs the same way; the first chunk of each foreign
quarter comes straight from the `z` partner.

Thirty-nine messages leave each device: numbers 0-10 to the `z` partner, 11-17 and 18-24 the own chunks 1-7 to the
`x` and to the `y` neighbour, 25-31 the right column halves of the `y` neighbour's chunks to the `x` neighbour,
32-38 the left column halves of the `x` neighbour's chunks to the `y` neighbour.
-/
module

public import proofs.«01_k».proof.Proof.Gen.KernelIdeal

@[expose] public section

namespace Cert.KernelIdeal.Exchange

open Cert.KernelIdeal Cert.KernelIdeal.Gen
open Idealize.ShloMosaic

/-! ## Messages -/

abbrev Msg : Type := Fin 39

/-- A message of the first kind: its source is the device's own input block. -/
abbrev isZ (μ : Msg) : Prop := μ.val < 11

/-- Which of the four later kinds a message is of (own rows to `x`, own rows to `y`, right halves, left halves). -/
def grp (μ : Msg) : ℕ := (μ.val - 11) / 7
/-- Its number within the kind. -/
def idx (μ : Msg) : ℕ := (μ.val - 11) % 7

/-- The mesh direction a message travels in: 0 along `z`, 1 along `x`, 2 along `y`. -/
def dir (μ : Msg) : Fin 3 := if isZ μ then 0 else if grp μ % 2 = 0 then 1 else 2

set_option backward.proofsInPublic true in
/-- The neighbour in a direction. -/
def nb (i : Fin 3) (d : Dev nD) : Dev nD :=
  match i with
  | 0 => ⟨(4 * (d.val / 4) + 2 * ((d.val / 2) % 2) + 1) - d.val % 2, by have h : d.val < 8 := d.isLt; show _ < 8; omega⟩
  | 1 => ⟨(2 * ((d.val / 2) % 2) + d.val % 2 + 4) - 4 * (d.val / 4), by have h : d.val < 8 := d.isLt; show _ < 8; omega⟩
  | 2 => ⟨(4 * (d.val / 4) + d.val % 2 + 2) - 2 * ((d.val / 2) % 2), by have h : d.val < 8 := d.isLt; show _ < 8; omega⟩

theorem nb_nb : ∀ (i : Fin 3) (d : Dev nD), nb i (nb i d) = d := by decide

set_option backward.proofsInPublic true in
/-- A neighbour map is its own inverse. -/
def nbEquiv (i : Fin 3) : Dev nD ≃ Dev nD := ⟨nb i, nb i, nb_nb i, nb_nb i⟩

/-- The quarter at relative place `t`: own, the `x` neighbour's, the `y` neighbour's, the opposite one. -/
def quarter (d : Dev nD) (t : ℕ) : ℕ :=
  if t = 0 then d.val / 2 else if t = 1 then (d.val / 2 + 2) % 4
  else if t = 2 then 2 * (d.val / 4) + (1 - d.val / 2 % 2) else 3 - d.val / 2

/-- The block of 64 rows message `μ` carries when device `d` sends it. -/
def blk (μ : Msg) (d : Dev nD) : ℕ :=
  if μ.val < 8 then 8 * quarter d 0 + μ.val
  else if isZ μ then 8 * quarter d (μ.val - 7)
  else if grp μ < 2 then 8 * quarter d 0 + idx μ + 1
  else if grp μ = 2 then 8 * quarter d 2 + idx μ + 1
  else 8 * quarter d 1 + idx μ + 1

/-- Its first column, and the column after its last. -/
def lo (μ : Msg) : ℕ := if μ.val < 25 then 0 else if grp μ = 2 then 256 else 0
def hi (μ : Msg) : ℕ := if μ.val < 25 then 512 else if grp μ = 2 then 512 else 256

/-- A message that carries all 512 columns. -/
abbrev isFull (μ : Msg) : Prop := μ.val < 25

set_option backward.proofsInPublic true in
/-- The message whose arrival supplies what `μ` forwards. -/
def parent (μ : Msg) : Msg :=
  if isZ μ then 0
  else if grp μ < 2 then ⟨idx μ + 1, by unfold idx; omega⟩
  else if grp μ = 2 then ⟨18 + idx μ, by unfold idx; omega⟩
  else ⟨11 + idx μ, by unfold idx; omega⟩

theorem blk_lt : ∀ (μ : Msg) (d : Dev nD), blk μ d < 32 := by decide +kernel
theorem lo_lt_hi : ∀ μ : Msg, lo μ < hi μ ∧ hi μ ≤ 512 := by decide
/-- A forwarded message is part of what its parent brought. -/
theorem blk_parent : ∀ (μ : Msg) (d : Dev nD), ¬ isZ μ → blk μ d = blk (parent μ) (nb (dir (parent μ)) d) := by decide +kernel
theorem parent_full : ∀ μ : Msg, lo (parent μ) = 0 ∧ hi (parent μ) = 512 := by decide
/-- Messages arriving at one device do not overlap. -/
theorem arrivals_disjoint : ∀ (d : Dev nD) (μ ν : Msg), μ ≠ ν → blk μ (nb (dir μ) d) = blk ν (nb (dir ν) d) →
    hi μ ≤ lo ν ∨ hi ν ≤ lo μ := by decide +kernel

/-! ## Semaphores -/

set_option backward.proofsInPublic true in
/-- The number of a message's send and of its receive semaphore. -/
def sndN (μ : Msg) : Fin 80 := if h : isZ μ then ⟨2 + μ.val, by omega⟩
  else ⟨24 + 14 * grp μ + idx μ, by have := μ.isLt; unfold grp idx; omega⟩
set_option backward.proofsInPublic true in
def rcvN (μ : Msg) : Fin 80 := if h : isZ μ then ⟨13 + μ.val, by omega⟩
  else ⟨31 + 14 * grp μ + idx μ, by have := μ.isLt; unfold grp idx; omega⟩

set_option backward.proofsInPublic true in
/-- What a semaphore number is: message and whether it counts arrivals. -/
def decode (s : Fin 80) : Option (Bool × Msg) :=
  if s.val < 2 then none
  else if h : s.val < 13 then some (false, ⟨s.val - 2, by omega⟩)
  else if h : s.val < 24 then some (true, ⟨s.val - 13, by omega⟩)
  else if h : (s.val - 24) % 14 < 7 then some (false, ⟨11 + 7 * ((s.val - 24) / 14) + (s.val - 24) % 14, by have := s.isLt; omega⟩)
  else some (true, ⟨11 + 7 * ((s.val - 24) / 14) + ((s.val - 24) % 14 - 7), by have := s.isLt; omega⟩)

theorem decode_snd : ∀ μ, decode (sndN μ) = some (false, μ) := by decide
theorem decode_rcv : ∀ μ, decode (rcvN μ) = some (true, μ) := by decide

/-! ## The order of the body's operations

Every device runs the same list of 149 operations: `ps μ` is the place of message `μ`'s sending, `pr μ` of the wait
for its arrival, `pw μ` of the wait for its having left, `pa a` of the addition of block `a` (blocks numbered
relatively, `8 * t + c`). -/

def ps (μ : Msg) : ℕ :=
  if isZ μ then μ.val
  else if grp μ < 2 then (if idx μ = 0 then 14 else 8 + 10 * idx μ) + grp μ
  else if grp μ = 2 then (if idx μ < 6 then 25 + 10 * idx μ else 81)
  else (if idx μ < 6 then 22 + 10 * idx μ else 78)

def pr (μ : Msg) : ℕ :=
  if μ.val = 0 then 11 else if μ.val = 1 then 13
  else if μ.val < 8 then 10 * μ.val - 3
  else if isZ μ then 83 + 2 * (μ.val - 8)
  else if grp μ = 0 then (if idx μ < 6 then 21 + 10 * idx μ else 77)
  else if grp μ = 1 then (if idx μ < 6 then 24 + 10 * idx μ else 80)
  else if grp μ = 2 then 90 + 3 * idx μ
  else 89 + 3 * idx μ

def pw (μ : Msg) : ℕ :=
  if isZ μ then 110 + μ.val
  else if grp μ < 2 then (if idx μ = 0 then 121 else 119 + 4 * idx μ) + grp μ
  else if grp μ = 2 then (if idx μ < 6 then 126 + 4 * idx μ else 148)
  else (if idx μ < 6 then 125 + 4 * idx μ else 147)

def pa (a : Fin 32) : ℕ :=
  let t := a.val / 8
  let c := a.val % 8
  if t = 0 then (if c = 0 then 12 else if c = 1 then 16 else 10 * c)
  else if t = 1 then (if c = 0 then 84 else if c < 7 then 13 + 10 * c else 79)
  else if t = 2 then (if c = 0 then 86 else if c < 7 then 16 + 10 * c else 82)
  else (if c = 0 then 88 else 88 + 3 * c)

set_option backward.proofsInPublic true in
/-- Whether the place `n` is that of the sending, the arrival, the departure or the addition with the number `i`. -/
def place (k : Fin 4) (i : Fin 39) : ℕ :=
  match k with
  | 0 => ps i
  | 1 => pr i
  | 2 => pw i
  | 3 => if h : i.val < 32 then pa ⟨i.val, h⟩ else 1000 + i.val

set_option maxRecDepth 10000 in
/-- No two operations have one place. -/
theorem place_inj : ∀ k k' : Fin 4, ∀ i i' : Fin 39, place k i = place k' i' → k = k' ∧ i = i' := by decide +kernel

set_option backward.proofsInPublic true in
theorem pa_eq (a : Fin 32) : pa a = place 3 ⟨a.val, by omega⟩ := by
  unfold place; rw [dif_pos a.isLt]

theorem ps_inj {μ ν : Msg} (h : ps μ = ps ν) : μ = ν := (place_inj 0 0 μ ν h).2
theorem pr_inj {μ ν : Msg} (h : pr μ = pr ν) : μ = ν := (place_inj 1 1 μ ν h).2
theorem pw_inj {μ ν : Msg} (h : pw μ = pw ν) : μ = ν := (place_inj 2 2 μ ν h).2
theorem pa_inj {a b : Fin 32} (h : pa a = pa b) : a = b := by
  rw [pa_eq, pa_eq] at h; exact Fin.ext (Fin.mk.inj (place_inj 3 3 _ _ h).2)
theorem ps_ne_pr (μ ν : Msg) : ps μ ≠ pr ν := fun h => absurd (place_inj 0 1 μ ν h).1 (by decide)
theorem ps_ne_pw (μ ν : Msg) : ps μ ≠ pw ν := fun h => absurd (place_inj 0 2 μ ν h).1 (by decide)
theorem pr_ne_pw (μ ν : Msg) : pr μ ≠ pw ν := fun h => absurd (place_inj 1 2 μ ν h).1 (by decide)
theorem ps_ne_pa (μ : Msg) (a : Fin 32) : ps μ ≠ pa a := fun h =>
  absurd (place_inj 0 3 μ _ (h.trans (pa_eq a))).1 (by decide)
theorem pr_ne_pa (μ : Msg) (a : Fin 32) : pr μ ≠ pa a := fun h =>
  absurd (place_inj 1 3 μ _ (h.trans (pa_eq a))).1 (by decide)
theorem pw_ne_pa (μ : Msg) (a : Fin 32) : pw μ ≠ pa a := fun h =>
  absurd (place_inj 2 3 μ _ (h.trans (pa_eq a))).1 (by decide)

/-- A message leaves before any place at which its counterpart is waited for. -/
theorem ps_lt_pr : ∀ μ : Msg, ps μ < pr μ := by decide
/-- Every sending comes before every wait for a departure. -/
theorem ps_lt_pw : ∀ μ ν : Msg, ps μ < pw ν := by decide +kernel
theorem pr_lt_pw : ∀ μ ν : Msg, pr μ < pw ν := by decide +kernel
/-- A message is forwarded after it has come. -/
theorem parent_before : ∀ μ : Msg, ¬ isZ μ → pr (parent μ) < ps μ := by decide
theorem pw_lt : ∀ μ : Msg, pw μ < 149 := by decide
theorem pa_lt : ∀ a : Fin 32, pa a < 149 := by decide

/-! ## Blocks, numbered relatively -/

/-- The absolute number of the relative block `a`. -/
def ab (d : Dev nD) (a : Fin 32) : ℕ := 8 * quarter d (a.val / 8) + a.val % 8
/-- The relative number of the absolute block `b`. -/
def rel (d : Dev nD) (b : ℕ) : Fin 32 :=
  ⟨(8 * (if b / 8 = quarter d 0 then 0 else if b / 8 = quarter d 1 then 1 else if b / 8 = quarter d 2 then 2 else 3) + b % 8) % 32,
    Nat.mod_lt _ (by decide)⟩

theorem ab_lt : ∀ (d : Dev nD) (a : Fin 32), ab d a < 32 := by decide +kernel
theorem rel_ab : ∀ (d : Dev nD) (a : Fin 32), rel d (ab d a) = a := by decide +kernel
theorem ab_rel : ∀ (d : Dev nD) (b : Fin 32), ab d (rel d b.val) = b.val := by decide +kernel

set_option backward.proofsInPublic true in
/-- The message (or the two messages) whose arrival completes the relative block `a`: its left columns and its right
    columns. -/
def leftOf (a : Fin 32) : Msg :=
  if a.val < 8 then ⟨a.val, by omega⟩
  else if a.val % 8 = 0 then ⟨7 + a.val / 8, by omega⟩
  else if a.val / 8 = 1 then ⟨10 + a.val % 8, by omega⟩
  else if a.val / 8 = 2 then ⟨17 + a.val % 8, by omega⟩
  else ⟨31 + a.val % 8, by omega⟩
set_option backward.proofsInPublic true in
def rightOf (a : Fin 32) : Msg :=
  if a.val < 25 then leftOf a else ⟨24 + a.val % 8, by omega⟩

theorem sources : ∀ (a : Fin 32) (d : Dev nD),
    blk (leftOf a) (nb (dir (leftOf a)) d) = ab d a ∧ blk (rightOf a) (nb (dir (rightOf a)) d) = ab d a := by decide +kernel
theorem sources_before : ∀ a : Fin 32, pr (leftOf a) < pa a ∧ pr (rightOf a) < pa a := by decide
/-- Either one message with all columns, or the left half in one and the right half in another. -/
theorem sources_cover : ∀ a : Fin 32,
    (leftOf a = rightOf a ∧ lo (leftOf a) = 0 ∧ hi (leftOf a) = 512)
      ∨ (leftOf a ≠ rightOf a ∧ lo (leftOf a) = 0 ∧ hi (leftOf a) = 256 ∧ lo (rightOf a) = 256 ∧ hi (rightOf a) = 512) := by decide

/-! ## Where the rows come from -/

/-- The device whose input the row `r` of `d`'s received copy is from: the `z` partner for the first chunk of each
    quarter, else the device of the quarter with the other `z`. -/
def org (d : Dev nD) (r : ℕ) : Dev nD :=
  if r / 64 % 8 = 0 then nb 0 d else ⟨(2 * (r / 512 % 4) + (1 - d.val % 2)) % 8, Nat.mod_lt _ (by decide)⟩

theorem org_block {d : Dev nD} {r b : ℕ} (h : r / 64 = b) : org d r = org d (64 * b) := by
  unfold org
  have h1 : r / 512 = b / 8 := by omega
  have h2 : 64 * b / 64 = b := by omega
  have h3 : 64 * b / 512 = b / 8 := by omega
  simp only [h, h1, h2, h3]
/-- What a first message brings is from its sender. -/
theorem org_z : ∀ (μ : Msg) (d : Dev nD), isZ μ → org (nb 0 d) (64 * blk μ d) = d := by decide +kernel
/-- What is forwarded has one origin at both ends. -/
theorem org_fwd : ∀ (μ : Msg) (d : Dev nD), ¬ isZ μ → org (nb (dir μ) d) (64 * blk μ d) = org d (64 * blk μ d) := by decide +kernel
theorem half_fwd : ∀ (μ : Msg) (d : Dev nD), ¬ isZ μ → (nb (dir μ) d).val % 2 = d.val % 2 := by decide +kernel
theorem half_z : ∀ d : Dev nD, (nb 0 d).val % 2 = 1 - d.val % 2 := by decide
/-- The origin always has the other `z`. -/
theorem org_half : ∀ (d : Dev nD) (b : Fin 32), (org d (64 * b.val)).val % 2 = 1 - d.val % 2 := by decide +kernel

end Cert.KernelIdeal.Exchange
-- ==== Proof.Geom.lean ====
/-
The parts of the buffers the transfers and the vector operations touch, and what is written there.

A block is 64 rows of the 2048, and a message carries a block of the receive buffer, all columns or half of them;
at its first leg it is read off the device's input. All statements are for any offset vector equal to the block's.
-/
module

public import proofs.«01_k».proof.Proof.Plan
public import proofs.«01_k».proof.Proof.Gen.KernelIdeal.Skeleton
public import proofs.«01_k».proof.Proof.Gen.KernelIdeal.Launch
public import Idealize.ShloMosaic.Lib.Pipeline.Value
public import Idealize.ShloMosaic.Lib.Pipeline.Launch
public import Idealize.ShloMosaic.Lib.Tactic

@[expose] public section

noncomputable section

namespace Cert.KernelIdeal.Exchange

open Cert.KernelIdeal Cert.KernelIdeal.Gen
open Idealize.ShloMosaic
open Idealize.ShloMosaic.TcCoe

variable {F : FTy → Type} [FloatOps F]
variable (m : (ℓ : Loc nD τ sig) → Buf (Elt F) ℓ)

/-! ## The buffers -/

/-- The staged input block, the staged output block, the receive buffer, and the scratch block the waits name. -/
abbrev xM : Memref sig .tc .vmem S1x2048x1024 .f32 := Memref.whole cc0_stg0_0
abbrev oM : Memref sig .tc .vmem S2048x512 .f32 := Memref.whole cc0_stg1_0
abbrev gM : Memref sig .tc .vmem S2048x512 .f32 := Memref.whole cc0_scratch0
abbrev sM : Memref sig .tc .vmem S512x512 .f32 := Memref.whole cc0_scratch1

/-- A block of 64 rows of the receive buffer, all columns; -/
abbrev gFull (off : Fin 2 → ℕ) (h : ∀ a, off a + S64x512.size a ≤ S2048x512.size a) : Memref sig .tc .vmem S64x512 .f32 :=
  gM.slice (Rect.unit (s := S2048x512) off S64x512.size h) (fun _ => rfl)
/-- 256 columns of it; -/
abbrev gHalf (off : Fin 2 → ℕ) (h : ∀ a, off a + S64x256.size a ≤ S2048x512.size a) : Memref sig .tc .vmem S64x256 .f32 :=
  gM.slice (Rect.unit (s := S2048x512) off S64x256.size h) (fun _ => rfl)
/-- a block of 64 rows and 512 columns of the input. -/
abbrev xFull (off : Fin 3 → ℕ) (h : ∀ a, off a + S1x64x512.size a ≤ S1x2048x1024.size a) : Memref sig .tc .vmem S64x512 .f32 :=
  (xM.slice (Rect.unit (s := S1x2048x1024) off S1x64x512.size h) (fun _ => rfl)).squeeze S64x512 squeezes_S1x64x512_S64x512

/-! ## The sets of elements -/

/-- Block `b` of the receive buffer, columns `l` up to `u`. -/
def gset (b l u : ℕ) : Finset S2048x512.Idx :=
  Finset.univ.filter fun i => (64 * b ≤ (i 0).val ∧ (i 0).val < 64 * b + 64) ∧ l ≤ (i 1).val ∧ (i 1).val < u
/-- What message `μ`, sent by `d`, fills. -/
def dset (μ : Msg) (d : Dev nD) : Finset S2048x512.Idx := gset (blk μ d) (lo μ) (hi μ)
/-- What message `μ`, received by `d`, fills. -/
def rset (μ : Msg) (d : Dev nD) : Finset S2048x512.Idx := dset μ (nb (dir μ) d)
/-- Where message `μ` of the first kind is read: the block's rows and the receiver's columns. -/
def xset (μ : Msg) (d : Dev nD) : Finset S1x2048x1024.Idx :=
  Finset.univ.filter fun i => (64 * blk μ d ≤ (i 1).val ∧ (i 1).val < 64 * blk μ d + 64) ∧
    512 - 512 * (d.val % 2) ≤ (i 2).val ∧ (i 2).val < 512 - 512 * (d.val % 2) + 512

theorem mem_gset {b l u : ℕ} {i : S2048x512.Idx} :
    i ∈ gset b l u ↔ (64 * b ≤ (i 0).val ∧ (i 0).val < 64 * b + 64) ∧ l ≤ (i 1).val ∧ (i 1).val < u := by
  simp only [gset, Finset.mem_filter, Finset.mem_univ, true_and]

theorem gFull_set {off : Fin 2 → ℕ} {h} {b : ℕ} (ho : off = ![64 * b, 0]) : (gFull off h).view.set = gset b 0 512 := by
  subst ho
  ext i
  rw [mem_gset]
  refine (Iff.of_eq (congrArg (i ∈ ·) (View.set_slice_whole cc0_scratch0 _))).trans ?_
  refine Rect.mem_set_unit.trans ?_
  refine Fin.forall_fin_two.trans ?_
  show (64 * b ≤ (i 0).val ∧ (i 0).val < 64 * b + 64) ∧ (0 ≤ (i 1).val ∧ (i 1).val < 0 + 512) ↔ _
  omega

theorem gHalf_set {off : Fin 2 → ℕ} {h} {b l : ℕ} (ho : off = ![64 * b, l]) : (gHalf off h).view.set = gset b l (l + 256) := by
  subst ho
  ext i
  rw [mem_gset]
  refine (Iff.of_eq (congrArg (i ∈ ·) (View.set_slice_whole cc0_scratch0 _))).trans ?_
  refine Rect.mem_set_unit.trans ?_
  refine Fin.forall_fin_two.trans ?_
  show (64 * b ≤ (i 0).val ∧ (i 0).val < 64 * b + 64) ∧ (l ≤ (i 1).val ∧ (i 1).val < l + 256) ↔ _
  omega

theorem xFull_set {off : Fin 3 → ℕ} {h} {μ : Msg} {d : Dev nD} (ho : off = ![0, 64 * blk μ d, 512 - 512 * (d.val % 2)]) :
    (xFull off h).view.set = xset μ d := by
  subst ho
  ext i
  simp only [xset, Finset.mem_filter, Finset.mem_univ, true_and]
  refine (Iff.of_eq (congrArg (i ∈ ·) (View.set_reshape _ _))).trans ?_
  refine (Iff.of_eq (congrArg (i ∈ ·) (View.set_slice_whole cc0_stg0_0 _))).trans ?_
  refine Rect.mem_set_unit.trans ?_
  refine (Fin.forall_fin_succ (n := 2)).trans ((and_congr Iff.rfl Fin.forall_fin_two).trans ?_)
  have h0 : (i 0).val < 1 := (i 0).isLt
  show (0 ≤ (i 0).val ∧ (i 0).val < 0 + 1) ∧ (64 * blk μ d ≤ (i 1).val ∧ (i 1).val < 64 * blk μ d + 64)
    ∧ (512 - 512 * (d.val % 2) ≤ (i 2).val ∧ (i 2).val < 512 - 512 * (d.val % 2) + 512) ↔ _
  omega

/-- What arrives at one device fills disjoint sets. -/
theorem rset_disjoint (d : Dev nD) {μ ν : Msg} (h : μ ≠ ν) : Disjoint (rset μ d) (rset ν d) := by
  refine Finset.disjoint_left.mpr fun i hi hj => ?_
  unfold rset dset at hi hj
  rw [mem_gset] at hi hj
  have hb : blk μ (nb (dir μ) d) = blk ν (nb (dir ν) d) := by omega
  have := arrivals_disjoint d μ ν h hb
  omega

/-- A forwarded message is read inside what its parent filled. -/
theorem dset_parent {μ : Msg} (h : ¬ isZ μ) (d : Dev nD) : dset μ d ⊆ rset (parent μ) d := by
  intro i hi
  unfold rset
  unfold dset at hi ⊢
  rw [mem_gset] at hi ⊢
  have h1 := blk_parent μ d h
  have h2 := parent_full μ
  have h3 := lo_lt_hi μ
  omega

/-! ## The contents -/

/-- Device `d`'s input as staged. -/
def xstg (d : Dev nD) : (cc0_stg0_0 : Ref sig .tc).ty.Contents (Elt F) :=
  (win0_0.blk (0 : Fin 1)).view.read (Elt F) (m ((d : Thread nD τ).loc main_arg0))

set_option backward.proofsInPublic true in
/-- The input's index at a row and a column. -/
def xIdx (r j : ℕ) : S1x2048x1024.Idx := fun a =>
  ⟨![0, r % 2048, j % 1024] a, by
    fin_cases a
    · exact Nat.one_pos
    · exact Nat.mod_lt _ (by decide)
    · exact Nat.mod_lt _ (by decide)⟩

theorem eq_xIdx (i : S1x2048x1024.Idx) {r j : ℕ} (hr : (i 1).val = r) (hj : (i 2).val = j) : i = xIdx r j := by
  funext a
  apply Fin.ext
  have h0 : (i 0).val < 1 := (i 0).isLt
  have h1 : (i 1).val < 2048 := (i 1).isLt
  have h2 : (i 2).val < 1024 := (i 2).isLt
  fin_cases a
  · show (i 0).val = 0; omega
  · show (i 1).val = r % 2048; omega
  · show (i 2).val = j % 1024; omega

/-- A block's index with the leading axis of one element put back. -/
abbrev up (y : S64x512.Idx) : S1x64x512.Idx :=
  Shape.reshapeEquiv (s := S1x64x512) (s' := S64x512) shapeCasts_S1x64x512_S64x512 y
theorem up_eq (y : S64x512.Idx) : up y = Fin.cons ⟨0, Nat.one_pos⟩ y := Shape.reshapeEquiv_cons_one _ y

/-- What device `d` ends up with in its receive buffer: the other summand, at its own columns. -/
def G (d : Dev nD) : (cc0_scratch0 : Ref sig .tc).ty.Contents (Elt F) := fun i =>
  xstg m (org d (i 0).val) (xIdx (i 0).val (512 * (d.val % 2) + (i 1).val))

/-- What it computes: its own columns of its own input plus that. -/
def outFin (d : Dev nD) : (cc0_stg1_0 : Ref sig .tc).ty.Contents (Elt F) := fun i =>
  FloatOps.addf (xstg m d (xIdx (i 0).val (512 * (d.val % 2) + (i 1).val))) (G m d i)

omit [FloatOps F] in
/-- A first message writes the receiver's final contents. -/
theorem land_z {μ : Msg} (hz : isZ μ) (d : Dev nD) {off : Fin 3 → ℕ} {h} {off' : Fin 2 → ℕ} {h'}
    (ho : off = ![0, 64 * blk μ d, 512 - 512 * (d.val % 2)]) (ho' : off' = ![64 * blk μ d, 0])
    (fd : (cc0_scratch0 : Ref sig .tc).ty.Contents (Elt F)) :
    ∀ i ∈ (gFull off' h').view.set,
      (gFull off' h').view.write (Elt F) fd ((xFull off h).view.read (Elt F) (xstg m d)) Finset.univ i = G m (nb 0 d) i := by
  subst ho ho'
  intro i hi
  obtain ⟨y, rfl⟩ := View.exists_emb_of_mem_set _ hi
  rw [View.write_emb_of_mem _ _ (Finset.mem_univ y), View.read_apply]
  have h0 : (y 0).val < 64 := (y 0).isLt
  have h1 : (y 1).val < 512 := (y 1).isLt
  have e0 : (((gFull ![64 * blk μ d, 0] h').view.emb y) 0).val = 64 * blk μ d + (y 0).val := by
    show 64 * blk μ d + 1 * (y 0).val = _; omega
  have e1 : (((gFull ![64 * blk μ d, 0] h').view.emb y) 1).val = (y 1).val := by
    show 0 + 1 * (y 1).val = _; omega
  have ey := up_eq y
  unfold G
  rw [e0, e1, org_block (b := blk μ d) (by omega), org_z μ d hz, half_z]
  show xstg m d ((xFull _ h).view.emb y) = _
  refine congrArg (xstg m d) (eq_xIdx _ ?_ ?_)
  · show 64 * blk μ d + 1 * ((up y) 1).val = _
    rw [ey]; show 64 * blk μ d + 1 * (y 0).val = _; omega
  · show (512 - 512 * (d.val % 2)) + 1 * ((up y) 2).val = _
    rw [ey]; show (512 - 512 * (d.val % 2)) + 1 * (y 1).val = _; omega

omit [FloatOps F] in
/-- Inside a forwarded message's set, sender's and receiver's final contents agree. -/
theorem G_fwd {μ : Msg} (hz : ¬ isZ μ) (d : Dev nD) {i : S2048x512.Idx} (hi : i ∈ dset μ d) : G m (nb (dir μ) d) i = G m d i := by
  unfold dset at hi
  rw [mem_gset] at hi
  unfold G
  rw [org_block (b := blk μ d) (by omega), org_block (d := d) (b := blk μ d) (by omega), org_fwd μ d hz, half_fwd μ d hz]

omit [FloatOps F] in
/-- A forwarded message writes the receiver's final contents, all columns … -/
theorem land_full {μ : Msg} (hz : ¬ isZ μ) (d : Dev nD) {off : Fin 2 → ℕ} {h} (hs : (gFull off h).view.set = dset μ d)
    (fd : (cc0_scratch0 : Ref sig .tc).ty.Contents (Elt F)) :
    ∀ i ∈ (gFull off h).view.set,
      (gFull off h).view.write (Elt F) fd ((gFull off h).view.read (Elt F) (G m d)) Finset.univ i = G m (nb (dir μ) d) i := by
  intro i hi
  rw [G_fwd m hz d (hs ▸ hi)]
  obtain ⟨y, rfl⟩ := View.exists_emb_of_mem_set _ hi
  rw [View.write_emb_of_mem _ _ (Finset.mem_univ y), View.read_apply]
  rfl

omit [FloatOps F] in
/-- … or half of them. -/
theorem land_half {μ : Msg} (hz : ¬ isZ μ) (d : Dev nD) {off : Fin 2 → ℕ} {h} (hs : (gHalf off h).view.set = dset μ d)
    (fd : (cc0_scratch0 : Ref sig .tc).ty.Contents (Elt F)) :
    ∀ i ∈ (gHalf off h).view.set,
      (gHalf off h).view.write (Elt F) fd ((gHalf off h).view.read (Elt F) (G m d)) Finset.univ i = G m (nb (dir μ) d) i := by
  intro i hi
  rw [G_fwd m hz d (hs ▸ hi)]
  obtain ⟨y, rfl⟩ := View.exists_emb_of_mem_set _ hi
  rw [View.write_emb_of_mem _ _ (Finset.mem_univ y), View.read_apply]
  rfl

/-! ## The additions -/

/-- What the output holds after the additions before place `n`: the result on their blocks. -/
def OutUpTo (d : Dev nD) (n : ℕ) (f : (cc0_stg1_0 : Ref sig .tc).ty.Contents (Elt F)) : Prop :=
  ∀ i : S2048x512.Idx, pa (rel d ((i 0).val / 64)) < n → f i = outFin m d i

/-- The rectangle of 64 rows of the output an addition writes. -/
abbrev oRect (off : Fin 2 → ℕ) (h : ∀ a, off a + S64x512.size a ≤ S2048x512.size a) : Rect S2048x512 :=
  Rect.unit (s := S2048x512) off S64x512.size h
/-- The rectangle of the input it reads. -/
abbrev xRect (off : Fin 3 → ℕ) (h : ∀ a, off a + S1x64x512.size a ≤ S1x2048x1024.size a) : Rect S1x2048x1024 :=
  Rect.unit (s := S1x2048x1024) off S1x64x512.size h

/-- The sum the body stores, from the two blocks it loads. -/
def sumOf (x : Vec F S1x64x512 .f32) (g : Vec F S64x512 .f32) : FVec F S64x512 .f32 :=
  addf (shapeCast S64x512 x shapeCasts_S1x64x512_S64x512) g

/-- Storing the sum at the place `n` of addition `a` carries the output to the next place. -/
theorem outUpTo_store (a : Fin 32) (d : Dev nD) {off : Fin 3 → ℕ} {h} {off' : Fin 2 → ℕ} {h'}
    (ho : off = ![0, 64 * ab d a, 512 * (d.val % 2)]) (ho' : off' = ![64 * ab d a, 0])
    (f : (cc0_stg1_0 : Ref sig .tc).ty.Contents (Elt F)) (hf : OutUpTo m d (pa a) f) :
    OutUpTo m d (pa a + 1) ((oM.access (oRect off' h')).write (Elt F) f
      (sumOf (xM.view.readAt (Elt F) (xRect off h).toLoadRect (xstg m d)) (gM.view.readAt (Elt F) (oRect off' h').toLoadRect (G m d)))
      Finset.univ) := by
  subst ho ho'
  intro i hi
  have hi0 : (i 0).val < 2048 := (i 0).isLt
  have hi1 : (i 1).val < 512 := (i 1).isLt
  by_cases hb : (i 0).val / 64 = ab d a
  · let y : S64x512.Idx := fun a => ⟨![(i 0).val % 64, (i 1).val] a, by
      fin_cases a
      · exact Nat.mod_lt _ (by decide)
      · exact hi1⟩
    have hy : (oM.access (oRect ![64 * ab d a, 0] h')).emb y = i := by
      funext k
      apply Fin.ext
      fin_cases k
      · show 64 * ab d a + 1 * ((i 0).val % 64) = (i 0).val; omega
      · show 0 + 1 * (i 1).val = (i 1).val; omega
    conv_lhs => rw [← hy]
    rw [View.write_emb_of_mem _ _ (Finset.mem_univ y)]
    have ey := up_eq y
    show FloatOps.addf (xstg m d ((xRect _ h).emb (up y))) (G m d ((oRect _ h').emb y)) = outFin m d i
    unfold outFin
    refine congrArg₂ FloatOps.addf (congrArg (xstg m d) (eq_xIdx _ ?_ ?_)) (congrArg (G m d) hy)
    · rw [ey]; show 64 * ab d a + 1 * ((i 0).val % 64) = _; omega
    · rw [ey]; show 512 * (d.val % 2) + 1 * (i 1).val = _; omega
  · rw [View.write_of_not_mem]
    · refine hf i ?_
      have : pa (rel d ((i 0).val / 64)) ≠ pa a := fun he => hb (by
        have := ab_rel d ⟨(i 0).val / 64, by omega⟩
        rw [pa_inj he] at this
        exact this.symm)
      omega
    · rw [View.setOn_univ]
      intro hm
      have hm' := (Rect.mem_set_unit.mp ((Iff.of_eq (congrArg (i ∈ ·) (View.set_slice_whole cc0_stg1_0 _))).mp hm)) 0
      have h1 : 64 * ab d a ≤ (i 0).val := hm'.1
      have h2 : (i 0).val < 64 * ab d a + 64 := hm'.2
      omega

/-- After the last place the output is the result. -/
theorem outUpTo_end (d : Dev nD) {f : (cc0_stg1_0 : Ref sig .tc).ty.Contents (Elt F)} (hf : OutUpTo m d 149 f) : f = outFin m d :=
  funext fun i => hf i (pa_lt _)

theorem outUpTo_start (d : Dev nD) (f : (cc0_stg1_0 : Ref sig .tc).ty.Contents (Elt F)) : OutUpTo m d 0 f :=
  fun i hi => absurd hi (Nat.not_lt_zero _)

/-- Between additions nothing changes. -/
theorem outUpTo_succ (d : Dev nD) {n : ℕ} (hn : ∀ a, pa a ≠ n) {f : (cc0_stg1_0 : Ref sig .tc).ty.Contents (Elt F)}
    (hf : OutUpTo m d n f) : OutUpTo m d (n + 1) f :=
  fun i hi => hf i (by have := hn (rel d ((i 0).val / 64)); omega)

end Cert.KernelIdeal.Exchange
-- ==== Proof.Sched.lean ====
/-
The protocol: who pays which semaphore, what comes with a payment, and in which order the waits are allowed.

A device's barrier semaphore is signalled once by each neighbour; the signal hands over those parts of the signaller's
receive buffer the device's messages will fill. A message's departure gives the lent source back, its arrival gives the
receiver the filled part with its final contents. The order: departures and staging below the barrier, below the
arrivals in the order of their messages.
-/
module

public import proofs.«01_k».proof.Proof.Geom
public import Idealize.ShloMosaic.Lib.Pipeline.Kit
public import Idealize.ShloMosaic.Lib.Transfers

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

/-- The barrier semaphore. -/
abbrev barS : Sem sig := (SemArray.scalar (sig.barrier 0 rfl) : Sems sig S_).sem

/-- The cells of one device: the barrier, and a departure and an arrival counter per message. -/
abbrev CIx : Type := Option (Bool × Msg)
abbrev bar : CIx := none
abbrev snd (μ : Msg) : CIx := some (false, μ)
abbrev rcv (μ : Msg) : CIx := some (true, μ)

def sloc : CIx → SemLoc sig
  | none => .reg barS
  | some (false, μ) => .dma (sndN μ)
  | some (true, μ) => .dma (rcvN μ)

def kind : SemLoc sig → Option CIx
  | .reg s => if s = barS then some none else none
  | .dma s => (decode s).map some

theorem kind_sloc : ∀ k : CIx, kind (sloc k) = some k
  | none => by show (if barS = barS then some none else none) = _; exact if_pos rfl
  | some (false, μ) => by show (decode (sndN μ)).map some = _; rw [decode_snd]; rfl
  | some (true, μ) => by show (decode (rcvN μ)).map some = _; rw [decode_rcv]; rfl

theorem sloc_inj {k k' : CIx} (h : sloc k = sloc k') : k = k' :=
  Option.some.inj ((kind_sloc k).symm.trans ((congrArg kind h).trans (kind_sloc k')))

abbrev cell (d : Dev nD) (k : CIx) : GSem nD τ sig := ((d : Thread nD τ), sloc k)

theorem cell_inj {d d' : Dev nD} {k k' : CIx} (h : cell d k = cell d' k') : d = d' ∧ k = k' := by
  refine ⟨?_, sloc_inj (congrArg Prod.snd h)⟩
  exact congrArg Prod.fst (congrArg Prod.fst h)

/-- The credit of a transfer of 64 x 512 and of 64 x 256 elements. -/
def NF : ℕ := (gFull ![0, 0] (by decide)).view.dmaCredit
def NH : ℕ := (gHalf ![0, 0] (by decide)).view.dmaCredit
theorem NF_pos : 0 < NF := View.dmaCredit_pos _ (by decide)
theorem NH_pos : 0 < NH := View.dmaCredit_pos _ (by decide)
def N (μ : Msg) : ℕ := if isFull μ then NF else NH
theorem N_pos (μ : Msg) : 0 < N μ := by
  unfold N; split
  · exact NF_pos
  · exact NH_pos

/-! ## Points-to assertions -/

abbrev gPts (d : Dev nD) (S : Finset S2048x512.Idx) (q : PosShare TreeShare) (f : (cc0_scratch0 : Ref sig .tc).ty.Contents (Elt F)) : sProp 𝕄 :=
  ((d : Thread nD τ).loc cc0_scratch0) ↦[S]{q} f
abbrev xPts (d : Dev nD) (S : Finset S1x2048x1024.Idx) (q : PosShare TreeShare) : sProp 𝕄 :=
  ((d : Thread nD τ).loc cc0_stg0_0) ↦[S]{q} xstg m d

/-- The share message `μ`'s source is lent at. -/
abbrev tok (μ : Msg) : PosShare TreeShare := shareTok fullShare 39 μ
/-- The share kept for reading. -/
abbrev kept : PosShare TreeShare := shareDrop fullShare 39

/-- The part of a neighbour's receive buffer `d`'s message `μ` fills, with any contents. -/
def hole (μ : Msg) (d : Dev nD) : sProp 𝕄 := iprop(∃ f, gPts (nb (dir μ) d) (dset μ d) fullShare f)

/-- What the neighbour in direction `i` hands `d` with its signal. -/
def barPay (d : Dev nD) (i : Fin 3) : sProp 𝕄 := bigSep Finset.univ fun μ : Msg => if dir μ = i then hole μ d else iprop(emp)
/-- What a departure gives back. -/
def sndPay (d : Dev nD) (μ : Msg) : sProp 𝕄 :=
  if isZ μ then xPts m d (xset μ d) (tok μ) else gPts d (dset μ d) (tok μ) (G m d)
/-- What an arrival brings. -/
def rcvPay (d : Dev nD) (μ : Msg) : sProp 𝕄 := gPts d (rset μ d) fullShare (G m d)

omit [FloatOps F] in
instance hole_storable (μ : Msg) (d : Dev nD) : BI.Storable (upEmb : UEmb _ 𝕄) (hole (F := F) μ d) := by unfold hole; infer_instance
omit [FloatOps F] in
instance barPay_storable (d : Dev nD) (i : Fin 3) : BI.Storable (upEmb : UEmb _ 𝕄) (barPay (F := F) d i) := by
  have : ∀ μ : Msg, BI.Storable (upEmb : UEmb _ 𝕄) (if dir μ = i then hole (F := F) μ d else iprop(emp)) := fun μ => by
    split <;> infer_instance
  unfold barPay; infer_instance
omit [FloatOps F] in
instance sndPay_storable (d : Dev nD) (μ : Msg) : BI.Storable (upEmb : UEmb _ 𝕄) (sndPay (F := F) m d μ) := by
  unfold sndPay; split <;> infer_instance
omit [FloatOps F] in
instance rcvPay_storable (d : Dev nD) (μ : Msg) : BI.Storable (upEmb : UEmb _ 𝕄) (rcvPay (F := F) m d μ) := by unfold rcvPay; infer_instance

/-! ## The schedule -/

/-- The payers of a cell: three for a barrier, one for a counter. -/
def payers : Option CIx → Finset (Fin 3)
  | some none => Finset.univ
  | some (some _) => {0}
  | none => ∅
def units : Option CIx → ℕ
  | some (some (_, μ)) => N μ
  | _ => 1
def pay (d : Dev nD) (i : Fin 3) : Option CIx → sProp 𝕄
  | some none => barPay d i
  | some (some (false, μ)) => sndPay m d μ
  | some (some (true, μ)) => rcvPay m d μ
  | none => iprop(emp)

/-- One round per cell. -/
def Rd : Rounds.Schedule (GSem nD τ sig) (Fin 3) 𝕄 where
  duties g r := if r = 0 ∧ g.1.2 = .tc then payers (kind g.2) else ∅
  unitless _ := False
  amount g _ _ := units (kind g.2)
  payload g _ i := pay m g.1.1 i (kind g.2)
  amount_pos g _ _ _ := by
    show 0 < units (kind g.2)
    unfold units
    split
    · exact N_pos _
    · exact Nat.one_pos

instance Rd_storable (g : GSem nD τ sig) (r : ℕ) (i : Fin 3) : BI.Storable (upEmb : UEmb _ 𝕄) ((Rd (F := F) m).payload g r i) := by
  show BI.Storable upEmb (pay m g.1.1 i (kind g.2))
  unfold pay
  split <;> infer_instance

section
variable (d : Dev nD) (μ : Msg)

theorem duties_cell (k : CIx) : (Rd (F := F) m).duties (cell d k) 0 = payers (some k) := by
  dsimp only [Rd]; rw [if_pos ⟨rfl, rfl⟩, kind_sloc]
theorem duties_later (g : GSem nD τ sig) : ∀ r, 1 ≤ r → (Rd (F := F) m).duties g r = ∅ :=
  fun r hr => by dsimp only [Rd]; rw [if_neg fun h => by omega]
theorem amount_cell (k : CIx) (i : Fin 3) : (Rd (F := F) m).amount (cell d k) 0 i = units (some k) := by
  dsimp only [Rd]; rw [kind_sloc]
theorem payload_cell (k : CIx) (i : Fin 3) : (Rd (F := F) m).payload (cell d k) 0 i = pay m d i (some k) := by
  dsimp only [Rd]; rw [kind_sloc]

theorem expect_bar : (Rd (F := F) m).expect (cell d bar) 0 = 3 := by
  unfold Schedule.expect Schedule.amountOf
  rw [duties_cell, Finset.sum_congr rfl fun i _ => amount_cell m d bar i]
  show Finset.sum (Finset.univ : Finset (Fin 3)) (fun _ => 1) = 3
  simp
theorem expect_xfer (b : Bool) : (Rd (F := F) m).expect (cell d (some (b, μ))) 0 = N μ := by
  unfold Schedule.expect Schedule.amountOf
  rw [duties_cell]
  show Finset.sum ({0} : Finset (Fin 3)) _ = N μ
  rw [Finset.sum_singleton, amount_cell]
  rfl

theorem rest_bar : bigSep ((Rd (F := F) m).duties (cell d bar) 0 \ ∅) (fun i => (Rd (F := F) m).payload (cell d bar) 0 i)
    = bigSep Finset.univ fun i : Fin 3 => barPay d i := by
  rw [Finset.sdiff_empty, duties_cell]
  exact bigSep_congr fun i _ => payload_cell m d bar i
theorem rest_snd : bigSep ((Rd (F := F) m).duties (cell d (snd μ)) 0 \ ∅) (fun i => (Rd (F := F) m).payload (cell d (snd μ)) 0 i)
    = sndPay m d μ := by
  rw [Finset.sdiff_empty, duties_cell]
  show bigSep ({0} : Finset (Fin 3)) _ = _
  rw [bigSep_singleton, payload_cell]; rfl
theorem rest_rcv : bigSep ((Rd (F := F) m).duties (cell d (rcv μ)) 0 \ ∅) (fun i => (Rd (F := F) m).payload (cell d (rcv μ)) 0 i)
    = rcvPay m d μ := by
  rw [Finset.sdiff_empty, duties_cell]
  show bigSep ({0} : Finset (Fin 3)) _ = _
  rw [bigSep_singleton, payload_cell]; rfl

end

/-! ## What is owed, and the order of waiting -/

/-- The arrival credit `d`'s message `μ` owes. -/
abbrev debt (d : Dev nD) (μ : Msg) : CellTallies nD τ sig Unit := tallyAt (cell (nb (dir μ) d) (rcv μ)) () (N μ)
/-- What `d` owes before place `n`: the arrivals of the messages still to be sent. -/
def owing (d : Dev nD) (n : ℕ) : CellTallies nD τ sig Unit := Finset.sum (Finset.univ.filter fun μ : Msg => n ≤ ps μ) fun μ => debt d μ
/-- The barrier units `d` owes its neighbours. -/
abbrev unit (d : Dev nD) (i : Fin 3) : CellTallies nD τ sig Unit := tallyAt (cell (nb i d) bar) () 1
/-- What it owes at the start. -/
def owing₀ (d : Dev nD) : CellTallies nD τ sig Unit := owing d 0 + unit d 2 + unit d 1 + unit d 0

theorem owing_send (d : Dev nD) (μ : Msg) : owing d (ps μ) = owing d (ps μ + 1) + debt d μ := by
  unfold owing
  have : (Finset.univ.filter fun ν : Msg => ps μ ≤ ps ν) = insert μ (Finset.univ.filter fun ν : Msg => ps μ + 1 ≤ ps ν) := by
    ext ν
    simp only [Finset.mem_filter, Finset.mem_univ, true_and, Finset.mem_insert]
    refine ⟨fun h => ?_, ?_⟩
    · by_cases he : ps μ = ps ν
      · exact Or.inl (ps_inj he).symm
      · exact Or.inr (by omega)
    · rintro (rfl | h)
      · exact le_rfl
      · omega
  rw [this, Finset.sum_insert (by simp), add_comm]

theorem owing_stay (d : Dev nD) {n : ℕ} (h : ∀ μ, ps μ ≠ n) : owing d (n + 1) = owing d n := by
  unfold owing
  congr 1
  ext ν
  simp only [Finset.mem_filter, Finset.mem_univ, true_and]
  have := h ν
  omega

theorem owing_done (d : Dev nD) {n : ℕ} (h : ∀ μ, ps μ < n) : owing d n = 0 := by
  unfold owing
  refine Finset.sum_eq_zero fun ν hν => ?_
  have := (Finset.mem_filter.mp hν).2
  have := h ν
  omega

theorem owing_pos {d : Dev nD} {n : ℕ} {g : GSem nD τ sig} {u : Unit} (h : 0 < owing d n g u) :
    ∃ μ, n ≤ ps μ ∧ g = cell (nb (dir μ) d) (rcv μ) := by
  by_contra hn
  rw [not_exists] at hn
  refine absurd h (Nat.not_lt.mpr (Nat.le_of_eq ?_))
  unfold owing
  rw [Finset.sum_apply, Finsupp.finset_sum_apply]
  refine Finset.sum_eq_zero fun μ hμ => ?_
  rw [tallyAt_apply, if_neg fun h' => hn μ ⟨(Finset.mem_filter.mp hμ).2, h'.1⟩]

def L (g : GSem nD τ sig) : Finset Unit := if g.1.2 = .tc then {()} else ∅
def lvk : Option CIx → ℕ
  | some none => 1
  | some (some (true, μ)) => ps μ + 2
  | _ => 0
def lv (g : GSem nD τ sig) (_ : Unit) : ℕ := lvk (kind g.2)

theorem L_of_ne (g : GSem nD τ sig) (h : g.1.2 ≠ .tc) : L g = ∅ := if_neg h
theorem L_tc (d : Dev nD) (sm : SemLoc sig) : L ((d : Thread nD τ), sm) = {()} := if_pos rfl
theorem lv_cell (d : Dev nD) (k : CIx) (u : Unit) : lv (cell d k) u = lvk (some k) := by unfold lv; rw [kind_sloc]

theorem owing₀_pos {d : Dev nD} {g : GSem nD τ sig} {u : Unit} (h : 0 < owing₀ d g u) :
    (∃ μ, g = cell (nb (dir μ) d) (rcv μ)) ∨ ∃ i, g = cell (nb i d) bar := by
  by_contra hn
  rw [not_or, not_exists, not_exists] at hn
  have h1 : owing d 0 g u = 0 := by
    by_contra h0
    obtain ⟨μ, _, e⟩ := owing_pos (Nat.pos_of_ne_zero h0)
    exact hn.1 μ e
  unfold owing₀ at h
  have h2 : ∀ i, unit d i g u = 0 := fun i => by
    rw [tallyAt_apply, if_neg fun h' => hn.2 i h'.1]
  rw [Pi.add_apply, Pi.add_apply, Pi.add_apply, Finsupp.add_apply, Finsupp.add_apply, Finsupp.add_apply, h1, h2, h2, h2] at h
  exact Nat.lt_irrefl 0 h

omit [FloatOps F] in
/-- Whoever owes arrivals and barrier units only may wait below the barrier. -/
theorem mayWait_low (d : Dev nD) (sm : SemLoc sig) (hk : lvk (kind sm) = 0) (O : CellTallies nD τ sig Unit) (hO : O = owing₀ d ∨ O = 0) :
    (levAts L lv : sProp 𝕄) ⊢ MayWait (d : Thread nD τ) sm () O := by
  rcases hO with rfl | rfl
  · refine MayOwe.of_cut (L := L) (lev := lv) 0 (fun p hp => by rw [Finset.mem_singleton.mp hp, L_tc]; exact Finset.mem_singleton_self _)
      (fun g u hg => by rcases owing₀_pos hg with ⟨μ, rfl⟩ | ⟨i, rfl⟩ <;> exact Finset.mem_singleton_self _)
      (fun p hp => by rw [Finset.mem_singleton.mp hp]; exact Nat.le_of_eq hk)
      (fun g u hg => by
        rcases owing₀_pos hg with ⟨μ, rfl⟩ | ⟨i, rfl⟩
        · rw [lv_cell]; exact Nat.succ_pos _
        · rw [lv_cell]; exact Nat.one_pos)
  · rw [MayWait_zero]; iintro -; iempintro

omit [FloatOps F] in
/-- At the barrier a device owes arrivals only. -/
theorem mayWait_bar (d : Dev nD) : (levAts L lv : sProp 𝕄) ⊢ MayWait (d : Thread nD τ) (sloc bar) () (owing d 0) :=
  MayOwe.of_cut (L := L) (lev := lv) 1 (fun p hp => by rw [Finset.mem_singleton.mp hp, L_tc]; exact Finset.mem_singleton_self _)
    (fun g u hg => by obtain ⟨μ, _, rfl⟩ := owing_pos hg; exact Finset.mem_singleton_self _)
    (fun p hp => by rw [Finset.mem_singleton.mp hp]; exact Nat.le_of_eq (lv_cell d bar ()))
    (fun g u hg => by obtain ⟨μ, _, rfl⟩ := owing_pos hg; rw [lv_cell]; show 1 < ps μ + 2; omega)

omit [FloatOps F] in
/-- At an arrival's wait it owes arrivals of messages further down the list only. -/
theorem mayWait_rcv (d : Dev nD) (μ : Msg) {n : ℕ} (hn : ps μ < n) :
    (levAts L lv : sProp 𝕄) ⊢ MayWait (d : Thread nD τ) (sloc (rcv μ)) () (owing d n) :=
  MayOwe.of_cut (L := L) (lev := lv) (ps μ + 2) (fun p hp => by rw [Finset.mem_singleton.mp hp, L_tc]; exact Finset.mem_singleton_self _)
    (fun g u hg => by obtain ⟨ν, _, rfl⟩ := owing_pos hg; exact Finset.mem_singleton_self _)
    (fun p hp => by rw [Finset.mem_singleton.mp hp]; exact Nat.le_of_eq (lv_cell d (rcv μ) ()))
    (fun g u hg => by obtain ⟨ν, hν, rfl⟩ := owing_pos hg; rw [lv_cell]; show ps μ + 2 < ps ν + 2; omega)

end Cert.KernelIdeal.Exchange
-- ==== Proof.State.lean ====
/-
What a device holds between two operations of the body, and how the parts of it change.

The 149 operations are numbered; `St d n` is what device `d` holds before operation `n`. For every message there is an
item about its sending, an item about the arrival of the message with that number, and the share of the input it may be
read from. What is lent to a message under way is missing from the share set aside for it.
-/
module

public import proofs.«01_k».proof.Proof.Sched

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-! ## The items -/

/-- The sending of `μ`: before it the rights to pay and the hole to fill, while it is under way the claim on its
    departure, after that the counter at zero. -/
def itemS (d : Dev nD) (n : ℕ) (μ : Msg) : sProp 𝕄 :=
  if n ≤ ps μ then
    iprop(dutyTok ER (cell d (snd μ)) 0 0 ∗ dutyTok ER (cell (nb (dir μ) d) (rcv μ)) 0 0 ∗ hole μ d ∗ atPos ER (cell d (snd μ)) 0 ∅ 0)
  else if n ≤ pw μ then
    iprop(cred (tallyAt (cell d (snd μ)) () (N μ)) ∗ atPos ER (cell d (snd μ)) 0 ∅ 0)
  else semVal (cell d (snd μ)) 0

/-- What `ν`, under way, has borrowed of what `μ` brought; -/
def glent (d : Dev nD) (n : ℕ) (μ ν : Msg) : Finset S2048x512.Idx :=
  if ¬ isZ ν ∧ parent ν = μ ∧ ps ν < n ∧ n ≤ pw ν then dset ν d else ∅
/-- and what `μ` has borrowed of the input. -/
def xlent (d : Dev nD) (n : ℕ) (μ : Msg) : Finset S1x2048x1024.Idx :=
  if isZ μ ∧ ps μ < n ∧ n ≤ pw μ then xset μ d else ∅

/-- What is set aside for `ν` of what `μ` brought. -/
def aside (d : Dev nD) (n : ℕ) (μ ν : Msg) : sProp 𝕄 := gPts d (rset μ d \ glent d n μ ν) (tok ν) (G m d)

/-- The arrival of `μ`: before it the claim on it, after that the counter at zero and what it brought. -/
def itemR (d : Dev nD) (n : ℕ) (μ : Msg) : sProp 𝕄 :=
  if n ≤ pr μ then iprop(cred (tallyAt (cell d (rcv μ)) () (N μ)) ∗ atPos ER (cell d (rcv μ)) 0 ∅ 0)
  else iprop(semVal (cell d (rcv μ)) 0 ∗ gPts d (rset μ d) kept (G m d) ∗ bigSep Finset.univ (aside m d n μ))

/-- The input's share for `μ`. -/
def itemX (d : Dev nD) (n : ℕ) (μ : Msg) : sProp 𝕄 := xPts m d (Finset.univ \ xlent d n μ) (tok μ)

/-- The output, finished on the blocks added so far. -/
def outItem (d : Dev nD) (n : ℕ) : sProp 𝕄 :=
  iprop(∃ f : (cc0_stg1_0 : Ref sig .tc).ty.Contents (Elt F), ⌜OutUpTo m d n f⌝ ∗ (((d : Thread nD τ).loc cc0_stg1_0) ↦{fullShare} f))

/-- What messages are sent from. -/
def lenders (d : Dev nD) (n : ℕ) : sProp 𝕄 :=
  iprop(bigSep Finset.univ (itemR m d n) ∗ bigSep Finset.univ (itemX m d n))

def St (d : Dev nD) (n : ℕ) : sProp 𝕄 :=
  iprop((∃ W, owes (d : Thread nD τ) (owing d n) W) ∗ bigSep Finset.univ (itemS d n) ∗ lenders m d n
    ∗ xPts m d Finset.univ kept ∗ outItem m d n)

/-! ## Taking one item out -/

omit [FloatOps F] in
/-- Of a family that changes at one place, that place can be taken out and put back changed. -/
theorem bigSep_change {I : Type} [Fintype I] [DecidableEq I] (i : I) (f g : I → sProp 𝕄) (h : ∀ j, j ≠ i → f j = g j) {A B : sProp 𝕄}
    (hA : f i = A) (hB : g i = B) : bigSep Finset.univ f ⊢ iprop(A ∗ (B -∗ bigSep Finset.univ g)) := by
  subst hA hB
  have h' : bigSep (Finset.univ.erase i) f = bigSep (Finset.univ.erase i) g := bigSep_congr fun j hj => h j (Finset.ne_of_mem_erase hj)
  have hg : iprop(g i ∗ bigSep (Finset.univ.erase i) g) ⊢ bigSep Finset.univ g := Entails.of_eq (bigSep_univ_split i).symm
  refine (Entails.of_eq ((bigSep_univ_split i).trans (congrArg (fun P => BI.sep (f i) P) h'))).trans ?_
  show iprop(f i ∗ bigSep (Finset.univ.erase i) g) ⊢ _
  iintro ⟨Hi, Hr⟩
  isplitl [Hi]; · iexact Hi
  iintro Hg
  iapply hg
  isplitl [Hg]; · iexact Hg
  iexact Hr

omit [FloatOps F] in
theorem pts_part {ℓ : Loc nD τ sig} {I S : Finset (Idx ℓ)} {q : PosShare TreeShare} {f : Buf (Elt F) ℓ} (h : I ⊆ S) :
    (ℓ ↦[S]{q} f : sProp 𝕄) ⊣⊢ iprop((ℓ ↦[I]{q} f) ∗ ℓ ↦[S \ I]{q} f) := pointsTo_split_subset h

section
variable {d : Dev nD} {n : ℕ} {μ ν : Msg}

omit [FloatOps F] in
theorem itemS_stay (h₁ : ps μ ≠ n) (h₂ : pw μ ≠ n) : itemS (F := F) d n μ = itemS d (n + 1) μ := by
  unfold itemS
  rw [if_congr (show n ≤ ps μ ↔ n + 1 ≤ ps μ by omega) rfl (if_congr (show n ≤ pw μ ↔ n + 1 ≤ pw μ by omega) rfl rfl)]

theorem glent_stay (h₁ : ps ν ≠ n) (h₂ : pw ν ≠ n) : glent d n μ ν = glent d (n + 1) μ ν := by
  unfold glent
  exact if_congr (by constructor <;> rintro ⟨a, b, c, e⟩ <;> exact ⟨a, b, by omega, by omega⟩) rfl rfl
theorem glent_other (h : isZ ν ∨ parent ν ≠ μ) : glent d n μ ν = ∅ := by
  unfold glent
  exact if_neg fun h' => h.elim h'.1 fun hp => hp h'.2.1

theorem xlent_stay (h₁ : ps μ ≠ n) (h₂ : pw μ ≠ n) : xlent d n μ = xlent d (n + 1) μ := by
  unfold xlent
  exact if_congr (by constructor <;> rintro ⟨a, c, e⟩ <;> exact ⟨a, by omega, by omega⟩) rfl rfl
theorem xlent_other (h : ¬ isZ μ) : xlent d n μ = ∅ := by unfold xlent; exact if_neg fun h' => h h'.1

theorem itemX_stay (h : ¬ isZ μ ∨ ps μ ≠ n ∧ pw μ ≠ n) : itemX m d n μ = itemX m d (n + 1) μ := by
  unfold itemX
  rcases h with h | h
  · rw [xlent_other h, xlent_other h]
  · rw [xlent_stay h.1 h.2]

theorem itemR_stay (h₁ : pr μ ≠ n) (h : ∀ ν, isZ ν ∨ parent ν ≠ μ ∨ ps ν ≠ n ∧ pw ν ≠ n) : itemR m d n μ = itemR m d (n + 1) μ := by
  unfold itemR
  rw [if_congr (show n ≤ pr μ ↔ n + 1 ≤ pr μ by omega) rfl rfl]
  refine congrArg (fun P => if n + 1 ≤ pr μ then _ else iprop(_ ∗ _ ∗ P)) (bigSep_congr fun ν _ => ?_)
  unfold aside
  rcases h ν with h | h | h
  · rw [glent_other (Or.inl h), glent_other (Or.inl h)]
  · rw [glent_other (Or.inr h), glent_other (Or.inr h)]
  · rw [glent_stay h.1 h.2]

/-- Nothing happens to what messages are sent from when no message leaves, comes, or has left. -/
theorem lenders_stay (h : ∀ μ, ps μ ≠ n ∧ pr μ ≠ n ∧ pw μ ≠ n) : lenders m d n = lenders m d (n + 1) := by
  unfold lenders
  rw [bigSep_congr fun μ _ => itemR_stay m (d := d) (h μ).2.1 fun ν => Or.inr (Or.inr ⟨(h ν).1, (h ν).2.2⟩),
    bigSep_congr fun μ _ => itemX_stay m (d := d) (Or.inr ⟨(h μ).1, (h μ).2.2⟩)]

end

/-! ## Lending and getting back -/

section
variable (d : Dev nD) (μ : Msg)

/-- A piece of a forwarding share while the message has it borrowed, and before or after. -/
theorem aside_out (hz : ¬ isZ μ) {n : ℕ} (h : ps μ < n ∧ n ≤ pw μ) : aside m d n (parent μ) μ = gPts d (rset (parent μ) d \ dset μ d) (tok μ) (G m d) := by
  unfold aside glent; rw [if_pos ⟨hz, rfl, h.1, h.2⟩]
theorem aside_in {n : ℕ} (h : n ≤ ps μ ∨ pw μ < n) (ν : Msg) : aside m d n ν μ = gPts d (rset ν d) (tok μ) (G m d) := by
  unfold aside glent; rw [if_neg (by rintro ⟨_, _, h1, h2⟩; omega), Finset.sdiff_empty]

theorem itemX_out (hz : isZ μ) {n : ℕ} (h : ps μ < n ∧ n ≤ pw μ) : itemX m d n μ = xPts m d (Finset.univ \ xset μ d) (tok μ) := by
  unfold itemX xlent; rw [if_pos ⟨hz, h.1, h.2⟩]
theorem itemX_in {n : ℕ} (h : n ≤ ps μ ∨ pw μ < n) : itemX m d n μ = xPts m d Finset.univ (tok μ) := by
  unfold itemX xlent; rw [if_neg (by rintro ⟨_, h1, h2⟩; omega), Finset.sdiff_empty]

theorem itemR_got {n : ℕ} (h : pr μ < n) :
    itemR m d n μ = iprop(semVal (cell d (rcv μ)) 0 ∗ gPts d (rset μ d) kept (G m d) ∗ bigSep Finset.univ (aside m d n μ)) := by
  unfold itemR; rw [if_neg (Nat.not_le.mpr h)]

variable {d μ}

/-- The families around a message's sending or departure differ at its own places only. -/
theorem aside_else {n : ℕ} (hn : n = ps μ ∨ n = pw μ) (κ ν : Msg) (h : ν ≠ μ) : aside m d n κ ν = aside m d (n + 1) κ ν := by
  unfold aside
  rw [glent_stay]
  · rcases hn with rfl | rfl
    · exact fun e => h (ps_inj e)
    · exact ps_ne_pw _ _
  · rcases hn with rfl | rfl
    · exact (ps_ne_pw _ _).symm
    · exact fun e => h (pw_inj e)
theorem itemR_else {n : ℕ} (hn : n = ps μ ∨ n = pw μ) (κ : Msg) (h : isZ μ ∨ κ ≠ parent μ) : itemR m d n κ = itemR m d (n + 1) κ := by
  refine itemR_stay m ?_ fun ν => ?_
  · rcases hn with rfl | rfl
    · exact (ps_ne_pr _ _).symm
    · exact pr_ne_pw _ _
  · by_cases e : ν = μ
    · subst e
      rcases h with h | h
      · exact Or.inl h
      · exact Or.inr (Or.inl (Ne.symm h))
    · refine Or.inr (Or.inr ?_)
      rcases hn with rfl | rfl
      · exact ⟨fun h' => e (ps_inj h'), (ps_ne_pw _ _).symm⟩
      · exact ⟨ps_ne_pw _ _, fun h' => e (pw_inj h')⟩
theorem itemX_else {n : ℕ} (hn : n = ps μ ∨ n = pw μ) (κ : Msg) (h : ¬ isZ μ ∨ κ ≠ μ) : itemX m d n κ = itemX m d (n + 1) κ := by
  refine itemX_stay m ?_
  by_cases e : κ = μ
  · subst e; exact Or.inl (h.resolve_right (fun h => h rfl))
  · refine Or.inr ?_
    rcases hn with rfl | rfl
    · exact ⟨fun h' => e (ps_inj h'), (ps_ne_pw _ _).symm⟩
    · exact ⟨ps_ne_pw _ _, fun h' => e (pw_inj h')⟩
theorem itemS_else {n : ℕ} (hn : n = ps μ ∨ n = pw μ) (κ : Msg) (h : κ ≠ μ) : itemS (F := F) d n κ = itemS d (n + 1) κ := by
  refine itemS_stay ?_ ?_ <;> rcases hn with rfl | rfl
  · exact fun e => h (ps_inj e)
  · exact ps_ne_pw _ _
  · exact (ps_ne_pw _ _).symm
  · exact fun e => h (pw_inj e)

/-- At its sending a message's source is lent. -/
theorem lend : lenders m d (ps μ) ⊢ iprop(sndPay m d μ ∗ lenders m d (ps μ + 1)) := by
  have hw := ps_lt_pw μ μ
  unfold lenders sndPay
  by_cases hz : isZ μ
  · rw [if_pos hz, bigSep_congr fun κ _ => itemR_else m (d := d) (Or.inl rfl) κ (Or.inl hz)]
    iintro ⟨HR, HX⟩
    ihave H := (bigSep_change μ _ _ (fun κ h => itemX_else m (d := d) (Or.inl rfl) κ (Or.inr h))
      (itemX_in m d μ (Or.inl le_rfl)) (itemX_out m d μ hz ⟨Nat.lt_add_one _, hw⟩)) $$ HX
    icases H with ⟨Hμ, Hback⟩
    ihave Hp := (pts_part (Finset.subset_univ (xset μ d))).1 $$ Hμ
    icases Hp with ⟨Hs, Hrest⟩
    isplitl [Hs]; · iexact Hs
    isplitl [HR]; · iexact HR
    iapply Hback; iexact Hrest
  · rw [if_neg hz, bigSep_congr fun κ _ => itemX_else m (d := d) (Or.inl rfl) κ (Or.inl hz)]
    have hp := parent_before μ hz
    iintro ⟨HR, HX⟩
    ihave H := (bigSep_change (parent μ) _ _ (fun κ h => itemR_else m (d := d) (Or.inl rfl) κ (Or.inr h))
      (itemR_got m d (parent μ) hp) (itemR_got m d (parent μ) (Nat.lt_add_right 1 hp))) $$ HR
    icases H with ⟨⟨Hv, Hkept, Ha⟩, Hback⟩
    ihave H := (bigSep_change μ _ _ (fun κ h => aside_else m (d := d) (Or.inl rfl) (parent μ) κ h)
      (aside_in m d μ (Or.inl le_rfl) _) (aside_out m d μ hz ⟨Nat.lt_add_one _, hw⟩)) $$ Ha
    icases H with ⟨Hμ, Hback'⟩
    ihave Hp := (pts_part (dset_parent hz d)).1 $$ Hμ
    icases Hp with ⟨Hs, Hrest⟩
    isplitl [Hs]; · iexact Hs
    isplitr [HX]
    · iapply Hback
      isplitl [Hv]; · iexact Hv
      isplitl [Hkept]; · iexact Hkept
      iapply Hback'; iexact Hrest
    · iexact HX

/-- After its departure it is whole again. -/
theorem regain : iprop(sndPay m d μ ∗ lenders m d (pw μ)) ⊢ lenders m d (pw μ + 1) := by
  have hw := ps_lt_pw μ μ
  unfold lenders sndPay
  by_cases hz : isZ μ
  · rw [if_pos hz, bigSep_congr fun κ _ => itemR_else m (d := d) (Or.inr rfl) κ (Or.inl hz)]
    iintro ⟨Hs, HR, HX⟩
    ihave H := (bigSep_change μ _ _ (fun κ h => itemX_else m (d := d) (Or.inr rfl) κ (Or.inr h))
      (itemX_out m d μ hz ⟨hw, le_rfl⟩) (itemX_in m d μ (Or.inr (Nat.lt_add_one _)))) $$ HX
    icases H with ⟨Hμ, Hback⟩
    isplitl [HR]; · iexact HR
    iapply Hback
    iapply (pts_part (Finset.subset_univ (xset μ d))).2
    isplitl [Hs]; · iexact Hs
    iexact Hμ
  · rw [if_neg hz, bigSep_congr fun κ _ => itemX_else m (d := d) (Or.inr rfl) κ (Or.inl hz)]
    have hp := parent_before μ hz
    iintro ⟨Hs, HR, HX⟩
    ihave H := (bigSep_change (parent μ) _ _ (fun κ h => itemR_else m (d := d) (Or.inr rfl) κ (Or.inr h))
      (itemR_got m d (parent μ) (hp.trans hw)) (itemR_got m d (parent μ) (Nat.lt_add_right 1 (hp.trans hw)))) $$ HR
    icases H with ⟨⟨Hv, Hkept, Ha⟩, Hback⟩
    ihave H := (bigSep_change μ _ _ (fun κ h => aside_else m (d := d) (Or.inr rfl) (parent μ) κ h)
      (aside_out m d μ hz ⟨hw, le_rfl⟩) (aside_in m d μ (Or.inr (Nat.lt_add_one _)) _)) $$ Ha
    icases H with ⟨Hμ, Hback'⟩
    isplitr [HX]
    · iapply Hback
      isplitl [Hv]; · iexact Hv
      isplitl [Hkept]; · iexact Hkept
      iapply Hback'
      iapply (pts_part (dset_parent hz d)).2
      isplitl [Hs]; · iexact Hs
      iexact Hμ
    · iexact HX

theorem aside_fresh (ν : Msg) : aside m d (pr μ + 1) μ ν = gPts d (rset μ d) (tok ν) (G m d) := by
  by_cases hc : ¬ isZ ν ∧ parent ν = μ
  · exact aside_in m d ν (Or.inl (by have := parent_before ν hc.1; rw [hc.2] at this; omega)) μ
  · unfold aside
    rw [glent_other, Finset.sdiff_empty]
    by_cases h : isZ ν
    · exact Or.inl h
    · exact Or.inr fun h' => hc ⟨h, h'⟩

theorem itemR_due {n : ℕ} (h : n ≤ pr μ) : itemR m d n μ = iprop(cred (tallyAt (cell d (rcv μ)) () (N μ)) ∗ atPos ER (cell d (rcv μ)) 0 ∅ 0) := by
  unfold itemR; rw [if_pos h]

/-- The claim on an arrival can be cashed: with the counter at zero and what it brought, the item goes on. -/
theorem arrive : lenders m d (pr μ) ⊢ iprop((cred (tallyAt (cell d (rcv μ)) () (N μ)) ∗ atPos ER (cell d (rcv μ)) 0 ∅ 0)
    ∗ ((semVal (cell d (rcv μ)) 0 ∗ rcvPay m d μ) -∗ lenders m d (pr μ + 1))) := by
  unfold lenders rcvPay
  have hf : bigSep Finset.univ (fun ν => gPts (F := F) d (rset μ d) (tok ν) (G m d)) ⊢ bigSep Finset.univ (aside m d (pr μ + 1) μ) :=
    Entails.of_eq (bigSep_congr fun ν _ => (aside_fresh m ν).symm)
  rw [bigSep_congr fun κ _ => itemX_stay m (d := d) (n := pr μ) (μ := κ) (Or.inr ⟨ps_ne_pr _ _, (pr_ne_pw _ _).symm⟩)]
  iintro ⟨HR, HX⟩
  ihave H := (bigSep_change μ (itemR m d (pr μ)) (itemR m d (pr μ + 1)) (fun κ h =>
    itemR_stay m (fun e => h (pr_inj e)) fun ν => Or.inr (Or.inr ⟨ps_ne_pr _ _, (pr_ne_pw _ _).symm⟩))
    (itemR_due m le_rfl) (itemR_got m d μ (Nat.lt_add_one _))) $$ HR
  icases H with ⟨Hμ, Hback⟩
  isplitl [Hμ]; · iexact Hμ
  iintro ⟨Hv, Hg⟩
  isplitr [HX]
  · iapply Hback
    isplitl [Hv]; · iexact Hv
    ihave Hs := (pointsTo_toks_split fullShare 39) $$ Hg
    icases Hs with ⟨Hk, Ht⟩
    isplitl [Hk]; · iexact Hk
    iapply hf; iexact Ht
  · iexact HX

/-- What has come can be read. -/
theorem peek {n : ℕ} (h : pr μ < n) : lenders m d n ⊢ iprop(gPts d (rset μ d) kept (G m d) ∗ (gPts d (rset μ d) kept (G m d) -∗ lenders m d n)) := by
  unfold lenders
  iintro ⟨HR, HX⟩
  ihave H := (bigSep_change μ (itemR m d n) (itemR m d n) (fun _ _ => rfl) (itemR_got m d μ h) (itemR_got m d μ h)) $$ HR
  icases H with ⟨⟨Hv, Hk, Ha⟩, Hback⟩
  isplitl [Hk]; · iexact Hk
  iintro Hk
  isplitr [HX]
  · iapply Hback
    isplitl [Hv]; · iexact Hv
    isplitl [Hk]; · iexact Hk
    iexact Ha
  · iexact HX

/-- What has come without what it brought. -/
def husk (d : Dev nD) (n : ℕ) (μ κ : Msg) : sProp 𝕄 :=
  if κ = μ then iprop(semVal (cell d (rcv μ)) 0 ∗ bigSep Finset.univ (aside m d n μ)) else itemR m d n κ

/-- Two that have come can be read at once. -/
theorem peek₂ {n : ℕ} (h : pr μ < n) {ν : Msg} (h' : pr ν < n) (hne : μ ≠ ν) :
    lenders m d n ⊢ iprop(gPts d (rset μ d ∪ rset ν d) kept (G m d) ∗ (gPts d (rset μ d ∪ rset ν d) kept (G m d) -∗ lenders m d n)) := by
  unfold lenders
  have hu : (gPts d (rset μ d ∪ rset ν d) kept (G m d) : sProp 𝕄) ⊣⊢ iprop(gPts d (rset μ d) kept (G m d) ∗ gPts d (rset ν d) kept (G m d)) :=
    pointsTo_union (rset_disjoint d hne)
  have hm : husk m d n μ μ = iprop(semVal (cell d (rcv μ)) 0 ∗ bigSep Finset.univ (aside m d n μ)) := by unfold husk; rw [if_pos rfl]
  have hn : husk m d n μ ν = itemR m d n ν := by unfold husk; rw [if_neg hne.symm]
  have he : ∀ κ, κ ≠ μ → itemR m d n κ = husk m d n μ κ := fun κ hκ => by unfold husk; rw [if_neg hκ]
  iintro ⟨HR, HX⟩
  ihave H := (bigSep_change μ (itemR m d n) (husk m d n μ) he (itemR_got m d μ h) hm) $$ HR
  icases H with ⟨⟨Hv, Hk, Ha⟩, Hback⟩
  ihave HR := Hback $$ [Hv Ha]
  · isplitl [Hv]; · iexact Hv
    iexact Ha
  ihave H := (bigSep_change ν (husk m d n μ) (husk m d n μ) (fun _ _ => rfl) (hn.trans (itemR_got m d ν h')) (hn.trans (itemR_got m d ν h'))) $$ HR
  icases H with ⟨⟨Hv', Hk', Ha'⟩, Hback⟩
  isplitl [Hk Hk']
  · iapply hu.2
    isplitl [Hk]; · iexact Hk
    iexact Hk'
  iintro Hg
  ihave Hg' := hu.1 $$ Hg
  icases Hg' with ⟨Hk, Hk'⟩
  ihave HR := Hback $$ [Hv' Hk' Ha']
  · isplitl [Hv']; · iexact Hv'
    isplitl [Hk']; · iexact Hk'
    iexact Ha'
  ihave H := (bigSep_change μ (husk m d n μ) (itemR m d n) (fun κ hκ => (he κ hκ).symm) hm (itemR_got m d μ h)) $$ HR
  icases H with ⟨⟨Hv, Ha⟩, Hback⟩
  isplitr [HX]
  · iapply Hback
    isplitl [Hv]; · iexact Hv
    isplitl [Hk]; · iexact Hk
    iexact Ha
  · iexact HX

end

end Cert.KernelIdeal.Exchange
-- ==== Proof.Steps.lean ====
/-
One lemma per kind of operation: what the device holds before it and after it.

`Tr K d n n' p P` says that the program `p` takes device `d` from what it holds before operation `n` to what it holds
before operation `n'`, whatever else it holds, and returns a value with the property `P`.
-/
module

public import proofs.«01_k».proof.Proof.State

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What everybody knows -/

/-- The invariants of all cells, that all have been reached, and the order of waiting. -/
def recs (K : Dev nD × CIx → ℕ) : sProp 𝕄 :=
  iprop(bigSep Finset.univ (fun p : Dev nD × CIx => cellInv ER (Rd m) (K p) (cell p.1 p.2))
    ∗ bigSep Finset.univ (fun p : Dev nD × CIx => reached ER (cell p.1 p.2) 0) ∗ levAts L lv)

instance recs_persistent (K : Dev nD × CIx → ℕ) : BI.Persistent (recs m K) := by unfold recs; infer_instance

variable (K : Dev nD × CIx → ℕ)

theorem inv_at (p : Dev nD × CIx) :
    (bigSep Finset.univ fun p : Dev nD × CIx => (cellInv ER (Rd m) (K p) (cell p.1 p.2) : sProp 𝕄)) ⊢ cellInv ER (Rd m) (K p) (cell p.1 p.2) :=
  bigSep_elim (Finset.mem_univ p)
omit [FloatOps F] in
theorem reached_at (p : Dev nD × CIx) :
    (bigSep Finset.univ fun p : Dev nD × CIx => (reached ER (cell p.1 p.2) 0 : sProp 𝕄)) ⊢ reached ER (cell p.1 p.2) 0 :=
  bigSep_elim (Finset.mem_univ p)
theorem recs_inv (d : Dev nD) (k : CIx) : recs m K ⊢ cellInv ER (Rd m) (K (d, k)) (cell d k) := by
  unfold recs
  iintro ⟨H, -, -⟩
  iapply (inv_at m K (d, k)); iexact H
theorem recs_reached (d : Dev nD) (k : CIx) : recs m K ⊢ reached ER (cell d k) 0 := by
  unfold recs
  iintro ⟨-, H, -⟩
  iapply (reached_at (d, k)); iexact H
theorem recs_lev : recs m K ⊢ (levAts L lv : sProp 𝕄) := by
  unfold recs
  iintro ⟨-, -, H⟩
  iexact H

/-! ## Passages -/

/-- The program `p` takes device `d` from place `n` to place `n'` and returns a value with `P`. -/
def Tr (d : Dev nD) (n n' : ℕ) {α : Type} (p : Prog (TpuEff nD τ sig (Elt F) Λ₀ .tc) α) (P : α → Prop) : Prop :=
  ∀ (R : sProp 𝕄) (Q : α → sProp 𝕄), (∀ a, P a → iprop(recs m K ∗ St m d n' ∗ R) ⊢ Q a) →
    iprop(recs m K ∗ St m d n ∗ R) ⊢ wp frame (wpE (defs₀ (F := F)) 𝒱₀ (d : Thread nD τ) none) Set.univ p Q

variable {m K}

theorem Tr.bind {d : Dev nD} {n n' n'' : ℕ} {α β : Type} {p : Prog (TpuEff nD τ sig (Elt F) Λ₀ .tc) α}
    {k : α → Prog (TpuEff nD τ sig (Elt F) Λ₀ .tc) β} {P : α → Prop} {P' : β → Prop}
    (h : Tr m K d n n' p P) (h' : ∀ a, P a → Tr m K d n' n'' (k a) P') : Tr m K d n n'' (p >>= k) P' := by
  intro R Q hQ
  rw [wp_bind]
  exact h R _ fun a ha => h' a ha R Q hQ

theorem Tr.pure {d : Dev nD} {n : ℕ} {α : Type} {a : α} {P : α → Prop} (h : P a) : Tr m K d n n (Pure.pure a) P := by
  intro R Q hQ
  rw [wp_pure]
  refine (hQ a h).trans ?_
  iintro H; imodintro; iexact H

theorem Tr.mono {d : Dev nD} {n n' : ℕ} {α : Type} {p : Prog (TpuEff nD τ sig (Elt F) Λ₀ .tc) α} {P P' : α → Prop}
    (h : Tr m K d n n' p P) (hP : ∀ a, P a → P' a) : Tr m K d n n' p P' :=
  fun R Q hQ => h R Q fun a ha => hQ a (hP a ha)

/-! ## The parts of what a device holds that an operation leaves alone -/

theorem outItem_stay {d : Dev nD} {n : ℕ} (h : ∀ a, pa a ≠ n) : outItem m d n ⊢ outItem m d (n + 1) := by
  unfold outItem
  iintro ⟨%f, %hf, Ho⟩
  iexists f
  isplitr; · ipureintro; exact outUpTo_succ m d h hf
  iexact Ho

theorem itemsS_stay {d : Dev nD} {n : ℕ} (h : ∀ μ, ps μ ≠ n ∧ pw μ ≠ n) :
    bigSep Finset.univ (itemS (F := F) d n) = bigSep Finset.univ (itemS d (n + 1)) :=
  bigSep_congr fun μ _ => itemS_stay (h μ).1 (h μ).2

/-! ## Sending -/

theorem itemS_before {d : Dev nD} {μ : Msg} : itemS (F := F) d (ps μ) μ
    = iprop(dutyTok ER (cell d (snd μ)) 0 0 ∗ dutyTok ER (cell (nb (dir μ) d) (rcv μ)) 0 0 ∗ hole μ d ∗ atPos ER (cell d (snd μ)) 0 ∅ 0) := by
  unfold itemS; rw [if_pos le_rfl]
theorem itemS_flying {d : Dev nD} {n : ℕ} {μ : Msg} (h : ps μ < n ∧ n ≤ pw μ) : itemS (F := F) d n μ
    = iprop(cred (tallyAt (cell d (snd μ)) () (N μ)) ∗ atPos ER (cell d (snd μ)) 0 ∅ 0) := by
  unfold itemS; rw [if_neg (Nat.not_le.mpr h.1), if_pos h.2]
theorem itemS_after {d : Dev nD} {n : ℕ} {μ : Msg} (h : pw μ < n) : itemS (F := F) d n μ = semVal (cell d (snd μ)) 0 := by
  unfold itemS; rw [if_neg (by have := ps_lt_pw μ μ; omega), if_neg (Nat.not_le.mpr h)]

/-- The sending of message `μ`, from any source that is what is lent for it, to the rectangle it fills. -/
theorem step_send (μ : Msg) {d dv : Dev nD} (hdv : dv = nb (dir μ) d) {r : Rect S2048x512} {hr : ∀ a, r.stride a = 1}
    {src : Memref sig .tc .vmem r.shape .f32} {fs : Buf (Elt F) (src.view.loc (d : Thread nD τ))} {sS sR : DmaSem sig}
    (hS : sS = sndN μ) (hR : sR = rcvN μ)
    {hsc : (gM.slice r hr : Memref sig (Dev.tc dv : Thread nD τ).2.kind .vmem r.shape .f32).view.ref.isScScratch = false}
    {hsrc : src.view.WordExact} {hdst : (gM.slice r hr).view.WordExact}
    {hsem : DmaTarget.Typed .vmem (.dma sR) (.remote (Dev.tc dv : Thread nD τ) (gM.slice r hr) (.dma sS) hsc)}
    (hN : (gM.slice r hr).view.dmaCredit = N μ)
    (hlent : sndPay m d μ = (src.view.loc (d : Thread nD τ) ↦[src.view.set]{tok μ} fs))
    (hset : (gM.slice r hr).view.set = dset μ d)
    (hland : ∀ fd, ∀ i ∈ (gM.slice r hr).view.set,
      (gM.slice r hr).view.write (Elt F) fd (src.view.read (Elt F) fs) Finset.univ i = G m (nb (dir μ) d) i) :
    Tr m K d (ps μ) (ps μ + 1)
      (Prog.lift (.enqueueDma src (.remote (Dev.tc dv : Thread nD τ) (gM.slice r hr) (.dma sS) hsc) (.dma sR) hsrc hdst hsem)) (fun _ => True) := by
  subst hdv hS hR
  intro R Q hQ
  simp only [Prog.lift]
  unfold St
  have hrep : ∀ fd : Buf (Elt F) ((nb (dir μ) d : Thread nD τ).loc cc0_scratch0), (gPts (nb (dir μ) d) (dset μ d) fullShare fd : sProp 𝕄)
      ⊢ ((gM.slice r hr).view.loc (nb (dir μ) d : Thread nD τ) ↦[(gM.slice r hr).view.set]{fullShare} fd) := fun fd => by
    rw [hset]
  have hback : iprop(bigSep Finset.univ (itemS (F := F) d (ps μ)))
      ⊢ _ := bigSep_change μ _ _ (fun κ h => itemS_else (d := d) (Or.inl rfl) κ h) itemS_before
        (itemS_flying ⟨Nat.lt_add_one _, ps_lt_pw μ μ⟩)
  iintro ⟨#Hrec, ⟨⟨%W, HO⟩, HS, HL, Hx, Hout⟩, HR⟩
  ihave H := hback $$ HS
  icases H with ⟨⟨HtS, HtR, Hh, Hat⟩, Hback⟩
  unfold hole
  icases Hh with ⟨%fd, Hh⟩
  ihave Hd := (hrep fd) $$ Hh
  ihave H := (lend m (d := d) (μ := μ)) $$ HL
  icases H with ⟨Hs, HL⟩
  ihave Hs := (Entails.of_eq hlent) $$ Hs
  iapply (Rounds.wp_send_pointsTo 𝒱₀ ER (Rd m) (d : Thread nD τ) none (c' := (nb (dir μ) d : Thread nD τ)) (src := src) (dst := gM.slice r hr) (κ₁ := K (d, snd μ)) (κ₂ := K (nb (dir μ) d, rcv μ))
    (r₁ := 0) (r₂ := 0) (d₁ := 0) (d₂ := 0) (fd := fd) (sS := .dma (sndN μ)) (sem := .dma (rcvN μ))
    (by rw [show ((d : Thread nD τ), SemLoc.dma (sndN μ)) = cell d (snd μ) from rfl, duties_cell]; exact Finset.mem_singleton_self _)
    (by rw [show ((Dev.tc (nb (dir μ) d) : Thread nD τ), SemLoc.dma (rcvN μ)) = cell (nb (dir μ) d) (rcv μ) from rfl, duties_cell]; exact Finset.mem_singleton_self _)
    () () (N μ) hN (amount_cell m d (snd μ) 0) (amount_cell m (nb (dir μ) d) (rcv μ) 0) (owing d (ps μ + 1)) (owing_send d μ) (W := W)
    (by rw [show ((d : Thread nD τ), SemLoc.dma (sndN μ)) = cell d (snd μ) from rfl, payload_cell]; exact Entails.of_eq hlent.symm)
    (by
      rw [show ((Dev.tc (nb (dir μ) d) : Thread nD τ), SemLoc.dma (rcvN μ)) = cell (nb (dir μ) d) (rcv μ) from rfl, payload_cell]
      show _ ⊢ rcvPay m (nb (dir μ) d) μ
      unfold rcvPay rset
      rw [nb_nb, pointsTo_congr (hland fd), hset])) $$ [HO HtS HtR Hs Hd]
  · isplitr; · iapply (recs_inv m K d (snd μ)); iexact Hrec
    isplitr; · iapply (recs_inv m K (nb (dir μ) d) (rcv μ)); iexact Hrec
    isplitl [Hs]; · iexact Hs
    isplitl [Hd]; · iexact Hd
    isplitl [HO]; · iexact HO
    isplitl [HtS]; · iexact HtS
    isplitr; · iapply (recs_reached m K d (snd μ)); iexact Hrec
    isplitl [HtR]; · iexact HtR
    iapply (recs_reached m K (nb (dir μ) d) (rcv μ)); iexact Hrec
  iintro ⟨Hc, HO⟩
  rw [wp_ret]
  imodintro
  iapply (hQ ⟨⟩ trivial)
  unfold St
  isplitr; · iexact Hrec
  isplitr [HR]
  · isplitl [HO]; · iexists W; iexact HO
    isplitl [Hback Hc Hat]
    · iapply Hback
      isplitl [Hc]; · iexact Hc
      iexact Hat
    isplitl [HL]; · iexact HL
    isplitl [Hx]; · iexact Hx
    iapply (outItem_stay fun a => (ps_ne_pa μ a).symm); iexact Hout
  · iexact HR

theorem half_hi : ∀ μ : Msg, ¬ isFull μ → hi μ = lo μ + 256 := by decide

/-- A first message: from the input. -/
theorem send_x (μ : Msg) {d dv : Dev nD} (hdv : dv = nb 0 d) {off : Fin 3 → ℕ} {h} {off' : Fin 2 → ℕ} {h'}
    (ho : off = ![0, 64 * blk μ d, 512 - 512 * (d.val % 2)]) (ho' : off' = ![64 * blk μ d, 0]) {sS sR : DmaSem sig}
    {hsc : (gFull off' h' : Memref sig (Dev.tc dv : Thread nD τ).2.kind .vmem S64x512 .f32).view.ref.isScScratch = false}
    {hsrc : (xFull off h).view.WordExact} {hdst : (gFull off' h').view.WordExact}
    {hsem : DmaTarget.Typed .vmem (.dma sR) (.remote (Dev.tc dv : Thread nD τ) (gFull off' h') (.dma sS) hsc)}
    (hz : isZ μ := by decide) (hS : sS = sndN μ := by rfl) (hR : sR = rcvN μ := by rfl) :
    Tr m K d (ps μ) (ps μ + 1)
      (Prog.lift (.enqueueDma (xFull off h) (.remote (Dev.tc dv : Thread nD τ) (gFull off' h') (.dma sS) hsc) (.dma sR) hsrc hdst hsem)) (fun _ => True) := by
  have hdir : dir μ = 0 := if_pos hz
  have hf : isFull μ := Nat.lt_trans hz (by decide)
  have hlh : lo μ = 0 ∧ hi μ = 512 := ⟨if_pos hf, if_pos hf⟩
  refine step_send μ (hdv.trans (by rw [hdir])) (r := Rect.unit (s := S2048x512) off' S64x512.size h') (hr := fun _ => rfl) (src := xFull off h) (fs := xstg m d) hS hR (by unfold N; rw [if_pos hf]; rfl) ?_ ?_ ?_
  · unfold sndPay; rw [if_pos hz, xFull_set ho]
  · unfold dset; rw [hlh.1, hlh.2]; exact gFull_set ho'
  · rw [hdir]; exact land_z m hz d ho ho'

/-- A forwarded message with all columns. -/
theorem send_full (μ : Msg) {d dv : Dev nD} (hdv : dv = nb (dir μ) d) {off : Fin 2 → ℕ} {h}
    (ho : off = ![64 * blk μ d, 0]) {sS sR : DmaSem sig}
    {hsc : (gFull off h : Memref sig (Dev.tc dv : Thread nD τ).2.kind .vmem S64x512 .f32).view.ref.isScScratch = false}
    {hsrc hdst : (gFull off h).view.WordExact}
    {hsem : DmaTarget.Typed .vmem (.dma sR) (.remote (Dev.tc dv : Thread nD τ) (gFull off h) (.dma sS) hsc)}
    (hz : ¬ isZ μ := by decide) (hf : isFull μ := by decide)
    (hS : sS = sndN μ := by rfl) (hR : sR = rcvN μ := by rfl) :
    Tr m K d (ps μ) (ps μ + 1)
      (Prog.lift (.enqueueDma (gFull off h) (.remote (Dev.tc dv : Thread nD τ) (gFull off h) (.dma sS) hsc) (.dma sR) hsrc hdst hsem)) (fun _ => True) := by
  have hset : (gFull off h).view.set = dset μ d := by
    unfold dset; rw [show lo μ = 0 from if_pos hf, show hi μ = 512 from if_pos hf]; exact gFull_set ho
  refine step_send μ hdv (r := Rect.unit (s := S2048x512) off S64x512.size h) (hr := fun _ => rfl) (src := gFull off h) (fs := G m d) hS hR (by unfold N; rw [if_pos hf]; rfl) ?_ hset (land_full m hz d hset)
  unfold sndPay; rw [if_neg hz, hset]

/-- A forwarded message with half the columns. -/
theorem send_half (μ : Msg) {d dv : Dev nD} (hdv : dv = nb (dir μ) d) {off : Fin 2 → ℕ} {h}
    (ho : off = ![64 * blk μ d, lo μ]) {sS sR : DmaSem sig}
    {hsc : (gHalf off h : Memref sig (Dev.tc dv : Thread nD τ).2.kind .vmem S64x256 .f32).view.ref.isScScratch = false}
    {hsrc hdst : (gHalf off h).view.WordExact}
    {hsem : DmaTarget.Typed .vmem (.dma sR) (.remote (Dev.tc dv : Thread nD τ) (gHalf off h) (.dma sS) hsc)}
    (hf : ¬ isFull μ := by decide) (hS : sS = sndN μ := by rfl) (hR : sR = rcvN μ := by rfl) :
    Tr m K d (ps μ) (ps μ + 1)
      (Prog.lift (.enqueueDma (gHalf off h) (.remote (Dev.tc dv : Thread nD τ) (gHalf off h) (.dma sS) hsc) (.dma sR) hsrc hdst hsem)) (fun _ => True) := by
  have hz : ¬ isZ μ := fun h => hf (Nat.lt_trans h (by decide))
  have hhi : hi μ = lo μ + 256 := half_hi μ hf
  have hset : (gHalf off h).view.set = dset μ d := by unfold dset; rw [hhi]; exact gHalf_set ho
  refine step_send μ hdv (r := Rect.unit (s := S2048x512) off S64x256.size h) (hr := fun _ => rfl) (src := gHalf off h) (fs := G m d) hS hR (by unfold N; rw [if_neg hf]; rfl) ?_ hset (land_half m hz d hset)
  unfold sndPay; rw [if_neg hz, hset]

/-! ## Waiting -/

/-- The wait for an arrival, naming any memref of its credit. -/
theorem step_recv (μ : Msg) {d : Dev nD} {sp sp' : Space} {s s' : Shape} {e e' : EltTy} {sR : DmaSem sig}
    {src : Memref sig .tc sp' s' e'} {dst : Memref sig .tc sp s e} {hsrc : src.view.WordExact} {hdst : dst.view.WordExact}
    (hR : sR = rcvN μ := by rfl) (hN : dst.view.dmaCredit = N μ := by rfl) :
    Tr m K d (pr μ) (pr μ + 1) (Prog.lift (.waitDma2 sR src dst hsrc hdst)) (fun _ => True) := by
  subst hR
  intro R Q hQ
  simp only [Prog.lift]
  unfold St
  iintro ⟨#Hrec, ⟨⟨%W, HO⟩, HS, HL, Hx, Hout⟩, HR⟩
  ihave H := (arrive m (d := d) (μ := μ)) $$ HL
  icases H with ⟨⟨Hc, Hat⟩, HL⟩
  iapply (Rounds.wp_wait_rest_token 𝒱₀ ER (Rd m) (d : Thread nD τ) none (κ := K (d, rcv μ)) (sm := sloc (rcv μ)) (k' := N μ)
      (fun Kt => (wpE_waitDma2_eq 𝒱₀ (d : Thread nD τ) none Set.univ Kt).trans (by rw [hN]; rfl)) (Set.mem_univ _) () (O := owing d (pr μ)) (W := W)
      (R := 0) (m := 0) (T := ∅) (by rw [Nat.zero_add]; exact (expect_xfer m d μ true).symm)) $$ [Hc HO Hat]
  · isplitr; · iapply (recs_inv m K d (rcv μ)); iexact Hrec
    isplitl [Hc]; · iexact Hc
    isplitl [HO]; · iexact HO
    isplitr
    · iapply (mayWait_rcv d μ (ps_lt_pr μ)); iapply (recs_lev m K); iexact Hrec
    iexact Hat
  iintro ⟨HO, Hat, -, Hpay⟩
  ihave Hp := (Entails.of_eq (rest_rcv m d μ)) $$ Hpay
  imod (Rounds.cell_close ER (Rd m) (Set.mem_univ (K (d, rcv μ))) (fun h => h) (R := 0 + 1) (duties_later m (cell d (rcv μ)))) $$ [Hat] with Hv
  · isplitr; · iapply (recs_inv m K d (rcv μ)); iexact Hrec
    iexact Hat
  rw [wp_ret]
  imodintro
  iapply (hQ ⟨⟩ trivial)
  unfold St
  rw [owing_stay d (fun ν => ps_ne_pr ν μ), ← itemsS_stay (d := d) (n := pr μ) (fun ν => ⟨ps_ne_pr ν μ, (pr_ne_pw μ ν).symm⟩)]
  isplitr; · iexact Hrec
  isplitr [HR]
  · isplitl [HO]; · iexists _; iexact HO
    isplitl [HS]; · iexact HS
    isplitl [HL Hv Hp]
    · iapply HL
      isplitl [Hv]; · iexact Hv
      iexact Hp
    isplitl [Hx]; · iexact Hx
    iapply (outItem_stay fun a => (pr_ne_pa μ a).symm); iexact Hout
  · iexact HR

/-- The wait for a departure. -/
theorem step_sent (μ : Msg) {d : Dev nD} {sp sp' : Space} {s s' : Shape} {e e' : EltTy} {sS : DmaSem sig}
    {src : Memref sig .tc sp' s' e'} {dst : Memref sig .tc sp s e} {hsrc : src.view.WordExact} {hdst : dst.view.WordExact}
    (hS : sS = sndN μ := by rfl) (hN : dst.view.dmaCredit = N μ := by rfl) :
    Tr m K d (pw μ) (pw μ + 1) (Prog.lift (.waitDma2 sS src dst hsrc hdst)) (fun _ => True) := by
  subst hS
  intro R Q hQ
  simp only [Prog.lift]
  unfold St
  have hback : iprop(bigSep Finset.univ (itemS (F := F) d (pw μ)))
      ⊢ _ := bigSep_change μ _ _ (fun κ h => itemS_else (d := d) (Or.inr rfl) κ h) (itemS_flying ⟨ps_lt_pw μ μ, le_rfl⟩)
        (itemS_after (Nat.lt_add_one _))
  iintro ⟨#Hrec, ⟨⟨%W, HO⟩, HS, HL, Hx, Hout⟩, HR⟩
  ihave H := hback $$ HS
  icases H with ⟨⟨Hc, Hat⟩, Hback⟩
  iapply (Rounds.wp_wait_rest_token 𝒱₀ ER (Rd m) (d : Thread nD τ) none (κ := K (d, snd μ)) (sm := sloc (snd μ)) (k' := N μ)
      (fun Kt => (wpE_waitDma2_eq 𝒱₀ (d : Thread nD τ) none Set.univ Kt).trans (by rw [hN]; rfl)) (Set.mem_univ _) () (O := owing d (pw μ)) (W := W)
      (R := 0) (m := 0) (T := ∅) (by rw [Nat.zero_add]; exact (expect_xfer m d μ false).symm)) $$ [Hc HO Hat]
  · isplitr; · iapply (recs_inv m K d (snd μ)); iexact Hrec
    isplitl [Hc]; · iexact Hc
    isplitl [HO]; · iexact HO
    isplitr
    · rw [owing_done d (fun ν => ps_lt_pw ν μ), MayWait_zero]; iempintro
    iexact Hat
  iintro ⟨HO, Hat, -, Hpay⟩
  ihave Hp := (Entails.of_eq (rest_snd m d μ)) $$ Hpay
  imod (Rounds.cell_close ER (Rd m) (Set.mem_univ (K (d, snd μ))) (fun h => h) (R := 0 + 1) (duties_later m (cell d (snd μ)))) $$ [Hat] with Hv
  · isplitr; · iapply (recs_inv m K d (snd μ)); iexact Hrec
    iexact Hat
  rw [wp_ret]
  imodintro
  iapply (hQ ⟨⟩ trivial)
  unfold St
  rw [owing_stay d (fun ν => ps_ne_pw ν μ)]
  isplitr; · iexact Hrec
  isplitr [HR]
  · isplitl [HO]; · iexists _; iexact HO
    isplitl [Hback Hv]
    · iapply Hback; iexact Hv
    isplitl [HL Hp]
    · iapply (regain m (d := d) (μ := μ))
      isplitl [Hp]; · iexact Hp
      iexact HL
    isplitl [Hx]; · iexact Hx
    iapply (outItem_stay fun a => (pw_ne_pa μ a).symm); iexact Hout
  · iexact HR

/-! ## Adding -/

/-- A load from the input. -/
theorem load_x {d : Dev nD} {n : ℕ} {r : LoadRect S1x2048x1024} {hl : (xM).view.LoadsAt r} :
    Tr m K d n n (Prog.lift (.load xM r hl)) (fun v => v = xM.view.readAt (Elt F) r (xstg m d)) := by
  intro R Q hQ
  simp only [Prog.lift]
  unfold St
  iintro ⟨#Hrec, ⟨HO, HS, HL, Hx, Hout⟩, HR⟩
  iapply (wp_load 𝒱₀ (d : Thread nD τ) none Set.univ (m := xM) (Finset.subset_univ _)) $$ Hx
  iintro Hx
  rw [wp_ret]
  imodintro
  iapply (hQ _ rfl)
  unfold St
  isplitr; · iexact Hrec
  isplitr [HR]
  · isplitl [HO]; · iexact HO
    isplitl [HS]; · iexact HS
    isplitl [HL]; · iexact HL
    isplitl [Hx]; · iexact Hx
    iexact Hout
  · iexact HR

/-- A load from the output; what it returns is not used. -/
theorem load_o {d : Dev nD} {n : ℕ} {r : LoadRect S2048x512} {hl : (oM).view.LoadsAt r} :
    Tr m K d n n (Prog.lift (.load oM r hl)) (fun _ => True) := by
  intro R Q hQ
  simp only [Prog.lift]
  unfold St outItem
  iintro ⟨#Hrec, ⟨HO, HS, HL, Hx, ⟨%f, %hf, Hout⟩⟩, HR⟩
  iapply (wp_load 𝒱₀ (d : Thread nD τ) none Set.univ (m := oM) (Finset.subset_univ _)) $$ Hout
  iintro Hout
  rw [wp_ret]
  imodintro
  iapply (hQ _ trivial)
  unfold St outItem
  isplitr; · iexact Hrec
  isplitr [HR]
  · isplitl [HO]; · iexact HO
    isplitl [HS]; · iexact HS
    isplitl [HL]; · iexact HL
    isplitl [Hx]; · iexact Hx
    iexists f
    isplitr; · ipureintro; exact hf
    iexact Hout
  · iexact HR

/-- What addition `a` reads has come by its place. -/
theorem peek_add (a : Fin 32) {d : Dev nD} {n : ℕ} (hn : pr (leftOf a) < n ∧ pr (rightOf a) < n) :
    lenders m d n ⊢ iprop(∃ S, ⌜gset (ab d a) 0 512 ⊆ S⌝ ∗ gPts d S kept (G m d) ∗ (gPts d S kept (G m d) -∗ lenders m d n)) := by
  have hs := sources a d
  rcases sources_cover a with ⟨he, hl, hh⟩ | ⟨hne, hl, hh, hl', hh'⟩
  · iintro H
    ihave H := (peek m (d := d) hn.1) $$ H
    iexists rset (leftOf a) d
    isplitr
    · ipureintro
      unfold rset dset; rw [hs.1, hl, hh]
    iexact H
  · iintro H
    ihave H := (peek₂ m (d := d) hn.1 hn.2 hne) $$ H
    iexists rset (leftOf a) d ∪ rset (rightOf a) d
    isplitr
    · ipureintro
      unfold rset dset; rw [hs.1, hs.2, hl, hh, hl', hh']
      intro i hi
      rw [Finset.mem_union, mem_gset, mem_gset]
      rw [mem_gset] at hi
      omega
    iexact H

/-- A load of block `a` of what has come. -/
theorem load_g (a : Fin 32) {d : Dev nD} {n : ℕ} (hn : pr (leftOf a) < n ∧ pr (rightOf a) < n) {off : Fin 2 → ℕ} {h}
    (ho : off = ![64 * ab d a, 0]) {hl : (gM).view.LoadsAt (oRect off h).toLoadRect} :
    Tr m K d n n (Prog.lift (.load gM (oRect off h).toLoadRect hl))
      (fun v => v = gM.view.readAt (Elt F) (oRect off h).toLoadRect (G m d)) := by
  intro R Q hQ
  simp only [Prog.lift]
  unfold St
  iintro ⟨#Hrec, ⟨HO, HS, HL, Hx, Hout⟩, HR⟩
  ihave H := (peek_add a hn) $$ HL
  icases H with ⟨%S, %hS, Hg, HL⟩
  iapply (wp_load 𝒱₀ (d : Thread nD τ) none Set.univ (m := gM)
    ((subset_of_eq ((View.set_slice _ _).symm.trans (gFull_set (h := h) ho))).trans hS)) $$ Hg
  iintro Hg
  rw [wp_ret]
  imodintro
  iapply (hQ _ rfl)
  unfold St
  isplitr; · iexact Hrec
  isplitr [HR]
  · isplitl [HO]; · iexact HO
    isplitl [HS]; · iexact HS
    isplitl [HL Hg]; · iapply HL; iexact Hg
    isplitl [Hx]; · iexact Hx
    iexact Hout
  · iexact HR

/-- The store of the sum of the two blocks loaded. -/
theorem store_o (a : Fin 32) {d : Dev nD} {off : Fin 3 → ℕ} {h} {off' : Fin 2 → ℕ} {h'}
    (ho : off = ![0, 64 * ab d a, 512 * (d.val % 2)]) (ho' : off' = ![64 * ab d a, 0]) {w : S64x512.Idx → F .f32}
    (hw : w = sumOf (xM.view.readAt (Elt F) (xRect off h).toLoadRect (xstg m d)) (gM.view.readAt (Elt F) (oRect off' h').toLoadRect (G m d)))
    {hx : (oM.access (oRect off' h')).Stores Finset.univ} {hm} :
    Tr m K d (pa a) (pa a + 1) (Prog.lift (.store oM (oRect off' h') w Finset.univ hx hm)) (fun _ => True) := by
  subst hw
  intro R Q hQ
  simp only [Prog.lift]
  unfold St outItem
  iintro ⟨#Hrec, ⟨HO, HS, HL, Hx, ⟨%f, %hf, Hout⟩⟩, HR⟩
  iapply (wp_store 𝒱₀ (d : Thread nD τ) none Set.univ (m := oM) (r := oRect off' h') (Mk := Finset.univ) (Finset.subset_univ _)) $$ Hout
  iintro Hout
  rw [wp_ret]
  imodintro
  iapply (hQ _ trivial)
  unfold St outItem
  rw [owing_stay d (fun ν => ps_ne_pa ν a), ← itemsS_stay (d := d) (n := pa a) (fun ν => ⟨ps_ne_pa ν a, pw_ne_pa ν a⟩),
    ← lenders_stay m (d := d) (n := pa a) (fun ν => ⟨ps_ne_pa ν a, pr_ne_pa ν a, pw_ne_pa ν a⟩)]
  isplitr; · iexact Hrec
  isplitr [HR]
  · isplitl [HO]; · iexact HO
    isplitl [HS]; · iexact HS
    isplitl [HL]; · iexact HL
    isplitl [Hx]; · iexact Hx
    iexists (oM.access (oRect off' h')).write (Elt F) f
      (sumOf (xM.view.readAt (Elt F) (xRect off h).toLoadRect (xstg m d)) (gM.view.readAt (Elt F) (oRect off' h').toLoadRect (G m d))) Finset.univ
    isplitr
    · ipureintro; exact outUpTo_store m a d ho ho' f hf
    iexact Hout
  · iexact HR

end Cert.KernelIdeal.Exchange
-- ==== Proof.Walk.lean ====
/-
Tools for reading the body's list of operations: the closed forms of its offsets in the terms of the plan, and the
passages for a message or an addition named by its number.
-/
module

public import proofs.«01_k».proof.Proof.Steps

@[expose] public section

noncomputable section

namespace Cert.KernelIdeal.Exchange

open Cert.KernelIdeal Cert.KernelIdeal.Gen
open Idealize.ShloMosaic
open Idealize.ShloMosaic.TcCoe
open Idealize.SL.RA Idealize.SL.BI Idealize.SL.Sem

variable {F : FTy → Type} [FloatOps F]

/-! ## Offsets -/

/-- Where the first messages land and are read: own rows, then the first chunk of the three other quarters. -/
theorem at_z : ∀ (d : Dev nD) (r : Fin 8), k0_off1 d (BitVec.ofNat 32 (64 * r.val)) = ![64 * blk ⟨r.val, by omega⟩ d, 0] := by decide +kernel
theorem at_zx : ∀ (d : Dev nD) (r : Fin 8), k0_off2 d (BitVec.ofNat 32 (64 * r.val)) = ![0, 64 * blk ⟨r.val, by omega⟩ d, 512 - 512 * (d.val % 2)] := by decide +kernel
theorem at_z8 : ∀ d : Dev nD, k0_off3 d 0#32 = ![64 * blk 8 d, 0] := by decide +kernel
theorem at_z9 : ∀ d : Dev nD, k0_off5 d 0#32 = ![64 * blk 9 d, 0] := by decide +kernel
theorem at_z10 : ∀ d : Dev nD, k0_off7 d = ![64 * blk 10 d, 0] := by decide +kernel
theorem at_z8x : ∀ d : Dev nD, k0_off4 d = ![0, 64 * blk 8 d, 512 - 512 * (d.val % 2)] := by decide +kernel
theorem at_z9x : ∀ d : Dev nD, k0_off6 d = ![0, 64 * blk 9 d, 512 - 512 * (d.val % 2)] := by decide +kernel
theorem at_z10x : ∀ d : Dev nD, k0_off8 d = ![0, 64 * blk 10 d, 512 - 512 * (d.val % 2)] := by decide +kernel
/-- Where the forwarded ones do. -/
theorem at_xq : ∀ (d : Dev nD) (r : Fin 7), k0_off1 d (BitVec.ofNat 32 (64 + 64 * r.val)) = ![64 * blk ⟨11 + r.val, by omega⟩ d, 0] := by decide +kernel
theorem at_yq : ∀ (d : Dev nD) (r : Fin 7), k0_off1 d (BitVec.ofNat 32 (64 + 64 * r.val)) = ![64 * blk ⟨18 + r.val, by omega⟩ d, 0] := by decide +kernel
theorem at_xr : ∀ (d : Dev nD) (r : Fin 7), k0_off14 d (BitVec.ofNat 32 (64 + 64 * r.val)) = ![64 * blk ⟨25 + r.val, by omega⟩ d, lo ⟨25 + r.val, by omega⟩] := by decide +kernel
theorem at_yr : ∀ (d : Dev nD) (r : Fin 7), k0_off11 d (BitVec.ofNat 32 (64 + 64 * r.val)) = ![64 * blk ⟨32 + r.val, by omega⟩ d, lo ⟨32 + r.val, by omega⟩] := by decide +kernel
/-- Where the additions read and write, quarter by quarter. -/
theorem at_a0 : ∀ (d : Dev nD) (r : Fin 8), k0_off9 d (BitVec.ofNat 32 (64 * r.val)) = ![0, 64 * ab d ⟨r.val, by omega⟩, 512 * (d.val % 2)]
    ∧ k0_off10 d (BitVec.ofNat 32 (64 * r.val)) = ![64 * ab d ⟨r.val, by omega⟩, 0] := by decide +kernel
theorem at_a1 : ∀ (d : Dev nD) (r : Fin 8), k0_off12 d (BitVec.ofNat 32 (64 * r.val)) = ![0, 64 * ab d ⟨8 + r.val, by omega⟩, 512 * (d.val % 2)]
    ∧ k0_off13 d (BitVec.ofNat 32 (64 * r.val)) = ![64 * ab d ⟨8 + r.val, by omega⟩, 0] := by decide +kernel
theorem at_a2 : ∀ (d : Dev nD) (r : Fin 8), k0_off15 d (BitVec.ofNat 32 (64 * r.val)) = ![0, 64 * ab d ⟨16 + r.val, by omega⟩, 512 * (d.val % 2)]
    ∧ k0_off16 d (BitVec.ofNat 32 (64 * r.val)) = ![64 * ab d ⟨16 + r.val, by omega⟩, 0] := by decide +kernel
theorem at_a3 : ∀ (d : Dev nD) (r : Fin 8), k0_off17 d (BitVec.ofNat 32 (64 * r.val)) = ![0, 64 * ab d ⟨24 + r.val, by omega⟩, 512 * (d.val % 2)]
    ∧ k0_off18 d (BitVec.ofNat 32 (64 * r.val)) = ![64 * ab d ⟨24 + r.val, by omega⟩, 0] := by decide +kernel

/-! ## A program part on the body's own buffers -/

/-- A part of the body takes the four buffers and the ten arrays of counters; this hands them to it. -/
abbrev onBufs {β : Type 1} (p : ∀ (arg0 : Memref sig .tc .vmem S1x2048x1024 .f32) (harg0 : arg0.IsWhole) (arg1 : Memref sig .tc .vmem S2048x512 .f32)
    (harg1 : arg1.IsWhole) (arg2 : Memref sig .tc .vmem S2048x512 .f32) (harg2 : arg2.IsWhole) (arg3 : Memref sig .tc .vmem S512x512 .f32)
    (harg3 : arg3.IsWhole) (arg4 arg5 : DmaSems sig S11) (arg6 arg7 arg8 arg9 arg10 arg11 arg12 arg13 : DmaSems sig S7), β) : β :=
  p xM (Memref.isWhole_whole _) oM (Memref.isWhole_whole _) gM (Memref.isWhole_whole _) sM (Memref.isWhole_whole _)
    cc0_scratch2 cc0_scratch3 cc0_scratch4 cc0_scratch5 cc0_scratch6 cc0_scratch7 cc0_scratch8 cc0_scratch9 cc0_scratch10 cc0_scratch11

variable {m : (ℓ : Loc nD τ sig) → Buf (Elt F) ℓ} {K : Dev nD × CIx → ℕ}

variable (m) in
/-- What a load of the input, and of what has come, returns. -/
abbrev xAt (d : Dev nD) (off : Fin 3 → ℕ) (h : ∀ a, off a + S1x64x512.size a ≤ S1x2048x1024.size a) : Vec F S1x64x512 .f32 :=
  xM.view.readAt (Elt F) (xRect off h).toLoadRect (xstg m d)
variable (m) in
abbrev gAt (d : Dev nD) (off : Fin 2 → ℕ) (h : ∀ a, off a + S64x512.size a ≤ S2048x512.size a) : Vec F S64x512 .f32 :=
  gM.view.readAt (Elt F) (oRect off h).toLoadRect (G m d)

/-- An addition: the two blocks are loaded, the place of the result is loaded and not used, the sum is stored. -/
theorem Tr.add (a : Fin 32) {d : Dev nD} {n' : ℕ} {off : Fin 3 → ℕ} {h} {off' : Fin 2 → ℕ} {h'}
    (ho : off = ![0, 64 * ab d a, 512 * (d.val % 2)] ∧ off' = ![64 * ab d a, 0]) {l₁ l₂ l₃}
    {hx : (oM.access (oRect off' h')).Stores Finset.univ} {hm} {pay : Vec F S1x64x512 .f32 → Vec F S64x512 .f32 → FVec F S64x512 .f32}
    {α : Type} {k : Prog (TpuEff nD τ sig (Elt F) Λ₀ .tc) α} {P : α → Prop} (hk : Tr m K d (pa a + 1) n' k P)
    (hpay : ∀ x g, pay x g = sumOf x g := by exact fun _ _ => rfl) :
    Tr m K d (pa a) n' (do
      let x ← Prog.lift (.load xM (xRect off h).toLoadRect l₁)
      let g ← Prog.lift (.load gM (oRect off' h').toLoadRect l₂)
      let _ ← Prog.lift (.load oM (oRect off' h').toLoadRect l₃)
      Prog.lift (.store oM (oRect off' h') (pay x g) Finset.univ hx hm)
      k) P := by
  refine Tr.bind load_x fun x hx' => Tr.bind (load_g a (sources_before a) ho.2) fun g hg => Tr.bind load_o fun _ _ =>
    Tr.bind (store_o (h := h) a ho.1 ho.2 ?_) fun _ _ => hk
  rw [hpay, hx', hg]

end Cert.KernelIdeal.Exchange
-- ==== Proof.Ends.lean ====
/-
The beginning and the end of the body: the barrier, what a device holds after it, and what it is left with.
-/
module

public import proofs.«01_k».proof.Proof.Walk
public import proofs.«01_k».proof.Proof.Gen.KernelIdeal.Skeleton

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × CIx → ℕ) (d : Dev nD)

/-! ## The receive buffer, cut and put together -/

/-- The part of a device's receive buffer the message `μ` it gets fills, with any contents, -/
def slot (μ : Msg) : sProp 𝕄 := iprop(∃ f, gPts d (rset μ d) fullShare f)
/-- The elements some message fills. -/
def filled : Finset S2048x512.Idx := Finset.univ.filter fun i => ∃ μ : Msg, i ∈ rset μ d
/-- What no message fills. -/
def spare : sProp 𝕄 := iprop(∃ f, gPts d (Finset.univ \ filled d) fullShare f)

omit [FloatOps F] in
theorem filled_eq (f : (cc0_scratch0 : Ref sig .tc).ty.Contents (Elt F)) :
    (gPts d (filled d) fullShare f : sProp 𝕄) = bigSep Finset.univ fun μ : Msg => gPts d (rset μ d) fullShare f := by
  refine Eq.trans ?_ (pointsTo_biUnion (ℓ := (d : Thread nD τ).loc cc0_scratch0) (T := Msg) Finset.univ (fun μ => rset μ d)
    fun μ _ ν _ h => rset_disjoint d h)
  refine congrArg (fun S => (((d : Thread nD τ).loc cc0_scratch0) ↦[S]{fullShare} f : sProp 𝕄)) (Finset.ext fun i => ?_)
  rw [Finset.mem_biUnion]
  unfold filled
  rw [Finset.mem_filter]
  exact ⟨fun ⟨_, μ, h⟩ => ⟨μ, Finset.mem_univ _, h⟩, fun ⟨μ, _, h⟩ => ⟨Finset.mem_univ _, μ, h⟩⟩

omit [FloatOps F] in
theorem cut (f : (cc0_scratch0 : Ref sig .tc).ty.Contents (Elt F)) :
    gPts d Finset.univ fullShare f ⊢ iprop(bigSep Finset.univ (slot (F := F) d) ∗ spare d) := by
  have h : (gPts d (filled d) fullShare f : sProp 𝕄) ⊢ bigSep Finset.univ (slot d) :=
    (Entails.of_eq (filled_eq d f)).trans (bigSep_mono fun μ _ => show _ ⊢ slot d μ by unfold slot; iintro H; iexists f; iexact H)
  refine (pts_part (Finset.subset_univ (filled d))).1.trans ?_
  iintro ⟨H, H'⟩
  isplitl [H]; · iapply h; iexact H
  unfold spare
  iexists f; iexact H'

omit [FloatOps F] in
theorem glue (g : (cc0_scratch0 : Ref sig .tc).ty.Contents (Elt F)) :
    iprop((bigSep Finset.univ fun μ => gPts d (rset μ d) fullShare g) ∗ spare d) ⊢ (iprop(∃ f, gPts d Finset.univ fullShare f) : sProp 𝕄) := by
  have h := Entails.of_eq (filled_eq d g).symm
  have hj : ∀ f, iprop(gPts d (filled d) fullShare g ∗ gPts d (Finset.univ \ filled d) fullShare f)
      ⊢ (iprop(∃ f, gPts d Finset.univ fullShare f) : sProp 𝕄) := fun f => by
    refine (pointsTo_join Finset.disjoint_sdiff).trans ?_
    rw [Finset.union_sdiff_of_subset (Finset.subset_univ _)]
    iintro H
    iexists _; iexact H
  unfold spare
  iintro ⟨H, %f, H'⟩
  iapply (hj f)
  isplitl [H]; · iapply h; iexact H
  iexact H'

/-! ## The barrier -/

omit [FloatOps F] in
/-- A family over messages, dealt by direction. -/
theorem dealt (Φ : Msg → Fin 3 → sProp 𝕄) :
    (bigSep Finset.univ fun i => bigSep Finset.univ fun μ => if dir μ = i then Φ μ i else iprop(emp)) = bigSep Finset.univ fun μ => Φ μ (dir μ) := by
  rw [bigSep_univ_comm]
  refine bigSep_congr fun μ _ => ?_
  rw [bigSep_univ_split (dir μ), if_pos rfl,
    bigSep_congr (Ψ := fun _ => iprop(emp)) fun i hi => if_neg (Finset.ne_of_mem_erase hi).symm]
  exact (congrArg (BI.sep (Φ μ (dir μ))) (bigSep_emp_const _)).trans (equiv_iff.mp sep_emp)

omit [FloatOps F] in
/-- What a device hands out are its slots, -/
theorem handed : bigSep Finset.univ (slot (F := F) d) = bigSep Finset.univ fun i : Fin 3 => barPay (nb i d) i := by
  refine Eq.symm ((dealt fun μ i => hole μ (nb i d)).trans (bigSep_congr fun μ _ => ?_))
  unfold hole slot rset
  rw [nb_nb]
omit [FloatOps F] in
/-- and what it gets are the holes for its messages. -/
theorem gotten : (bigSep Finset.univ fun i : Fin 3 => barPay (F := F) d i) = bigSep Finset.univ fun μ => hole μ d :=
  dealt fun μ _ => hole μ d

omit [FloatOps F] in
theorem bigSep_three (Φ : Fin 3 → sProp 𝕄) : bigSep Finset.univ Φ = iprop(Φ 0 ∗ Φ 1 ∗ Φ 2) :=
  bigSep_univ_eq_bigSepL [(0 : Fin 3), 1, 2] (by decide) (by decide) Φ

/-- What a device comes to the barrier with. -/
def Bar : sProp 𝕄 :=
  iprop((∃ W, owes (d : Thread nD τ) (owing₀ d) W) ∗ cred (tallyAt (cell d bar) () 3) ∗ atPos ER (cell d bar) 0 ∅ 0
    ∗ (bigSep Finset.univ fun i : Fin 3 => dutyTok ER (cell (nb i d) bar) 0 i) ∗ bigSep Finset.univ (slot d))

/-- What it leaves it with. -/
def Bar' : sProp 𝕄 :=
  iprop((∃ W, owes (d : Thread nD τ) (owing d 0) W) ∗ semVal (cell d bar) 0 ∗ bigSep Finset.univ fun μ => hole μ d)

/-- The first part of the body learns the device's number and the barrier's counter. -/
theorem part1 (R : sProp 𝕄) (Q : (Σ' (d0 : Dev nD) (v2 : BitVec 32) (v5 : BitVec 32) (v8 : BitVec 32) (v11 : BitVec 32) (v15 : BitVec 32) (v19 : BitVec 32)
      (v24 : BitVec 32) (v26 : BitVec 32) (v30 : BitVec 32) (v31 : BitVec 32) (v32 : BitVec 32), Sems sig S_) → sProp 𝕄)
    (hQ : ∀ w₁ w₂ w₃ w₄ w₅ w₆ w₇ w₈ w₉ w₁₀ w₁₁, R ⊢ Q ⟨d, w₁, w₂, w₃, w₄, w₅, w₆, w₇, w₈, w₉, w₁₀, w₁₁, SemArray.scalar (sig.barrier 0 rfl)⟩) :
    R ⊢ wp frame (wpE (defs₀ (F := F)) 𝒱₀ (d : Thread nD τ) none) Set.univ (onBufs (k0_part1 (F := F))) Q := by
  rw [k0_part1_eq_skeleton]
  dsimp only [onBufs, k0_part1_skel]
  simp only [Prog.lift, Prog.bind_op, Prog.bind_ret, Prog.pure_eq_ret, wp_deviceId, wp_ret]
  iintro H
  imodintro
  iapply hQ
  iexact H

/-- The second is the barrier. -/
theorem part2 (w₁ w₂ w₃ w₄ w₅ w₆ w₇ : BitVec 32) (R : sProp 𝕄) (Q : PUnit → sProp 𝕄)
    (hQ : iprop(recs m K ∗ Bar' d ∗ R) ⊢ Q ⟨⟩) :
    iprop(recs m K ∗ Bar d ∗ R) ⊢ wp frame (wpE (defs₀ (F := F)) 𝒱₀ (d : Thread nD τ) none) Set.univ
      (onBufs (k0_part2 (F := F)) d w₁ w₂ w₃ w₄ w₅ w₆ w₇ (SemArray.scalar (sig.barrier 0 rfl))) Q := by
  rw [k0_part2_eq_skeleton]
  dsimp only [onBufs, k0_part2_skel]
  simp only [semSignalWord, semWaitWord, Prog.lift, Prog.bind_op, Prog.bind_ret, Prog.pure_eq_ret]
  rw [show (⟨k0_dev1 d, k0_dev1_lt d⟩ : Dev nD) = nb 0 d from Fin.ext (k0_dev1_eq d), show (⟨k0_dev2 d, k0_dev2_lt d⟩ : Dev nD) = nb 1 d from Fin.ext (k0_dev2_eq d),
    show (⟨k0_dev3 d, k0_dev3_lt d⟩ : Dev nD) = nb 2 d from Fin.ext (k0_dev3_eq d)]
  have hp : ∀ i, barPay (nb i d) i ⊢ (Rd (F := F) m).payload ((nb i d : Thread nD τ), SemLoc.reg barS) 0 i := fun i => Entails.of_eq (payload_cell m (nb i d) bar i).symm
  have ht : ∀ i, i ∈ (Rd (F := F) m).duties (cell (nb i d) bar) 0 := fun i => by rw [duties_cell]; exact Finset.mem_univ i
  have hrest : (bigSep ((Rd (F := F) m).duties ((d : Thread nD τ), SemLoc.reg (SemArray.scalar (sig.barrier 0 rfl) : Sems sig S_).sem) 0 \ ∅)
      fun i => (Rd (F := F) m).payload ((d : Thread nD τ), SemLoc.reg (SemArray.scalar (sig.barrier 0 rfl) : Sems sig S_).sem) 0 i)
      ⊢ bigSep Finset.univ fun μ => hole μ d := Entails.of_eq ((rest_bar m d).trans (gotten d))
  unfold Bar
  rw [handed, bigSep_three, bigSep_three]
  iintro ⟨#Hrec, ⟨⟨%W, HO⟩, Hc, Hat, ⟨Ht0, Ht1, Ht2⟩, Hs0, Hs1, Hs2⟩, HR⟩
  rw [show owing₀ d = owing d 0 + unit d 2 + unit d 1 + unit d 0 from rfl]
  iapply (Rounds.wp_signal 𝒱₀ ER (Rd m) (d : Thread nD τ) none (dst := (nb 0 d : Thread nD τ)) (κ := K (nb 0 d, bar))
      (d := 0) (ht 0) ((amount_cell m (nb 0 d) bar 0).trans (by decide)) () (owing d 0 + unit d 2 + unit d 1) rfl) $$ [HO Ht0 Hs0]
  · isplitr; · iapply (recs_inv m K (nb 0 d) bar); iexact Hrec
    isplitl [HO]; · iexact HO
    isplitl [Ht0]; · iexact Ht0
    isplitl [Hs0]; · iapply (hp 0); iexact Hs0
    iapply (recs_reached m K (nb 0 d) bar); iexact Hrec
  iintro HO
  iapply (Rounds.wp_signal 𝒱₀ ER (Rd m) (d : Thread nD τ) none (dst := (nb 1 d : Thread nD τ)) (κ := K (nb 1 d, bar))
      (d := 1) (ht 1) ((amount_cell m (nb 1 d) bar 1).trans (by decide)) () (owing d 0 + unit d 2) rfl) $$ [HO Ht1 Hs1]
  · isplitr; · iapply (recs_inv m K (nb 1 d) bar); iexact Hrec
    isplitl [HO]; · iexact HO
    isplitl [Ht1]; · iexact Ht1
    isplitl [Hs1]; · iapply (hp 1); iexact Hs1
    iapply (recs_reached m K (nb 1 d) bar); iexact Hrec
  iintro HO
  iapply (Rounds.wp_signal 𝒱₀ ER (Rd m) (d : Thread nD τ) none (dst := (nb 2 d : Thread nD τ)) (κ := K (nb 2 d, bar))
      (d := 2) (ht 2) ((amount_cell m (nb 2 d) bar 2).trans (by decide)) () (owing d 0) rfl) $$ [HO Ht2 Hs2]
  · isplitr; · iapply (recs_inv m K (nb 2 d) bar); iexact Hrec
    isplitl [HO]; · iexact HO
    isplitl [Ht2]; · iexact Ht2
    isplitl [Hs2]; · iapply (hp 2); iexact Hs2
    iapply (recs_reached m K (nb 2 d) bar); iexact Hrec
  iintro HO
  iapply (Rounds.wp_wait_rest_token 𝒱₀ ER (Rd m) (d : Thread nD τ) none (κ := K (d, bar))
      (wpE_semWait_eq 𝒱₀ (d : Thread nD τ) none Set.univ) (Set.mem_univ _) () (O := owing d 0) (W := W) (R := 0) (m := 0) (T := ∅)
      (by rw [show ((d : Thread nD τ), SemLoc.reg _) = cell d bar from rfl, expect_bar]; decide)) $$ [Hc HO Hat]
  · isplitr; · iapply (recs_inv m K d bar); iexact Hrec
    isplitl [Hc]; · iexact Hc
    isplitl [HO]; · iexact HO
    isplitr; · iapply (mayWait_bar d); iapply (recs_lev m K); iexact Hrec
    iexact Hat
  iintro ⟨HO, Hat, -, Hpay⟩
  ihave Hp := hrest $$ Hpay
  imod (Rounds.cell_close ER (Rd m) (Set.mem_univ (K (d, bar))) (fun h => h) (R := 0 + 1) (duties_later m (cell d bar))) $$ [Hat] with Hv
  · isplitr; · iapply (recs_inv m K d bar); iexact Hrec
    iexact Hat
  rw [wp_ret]
  imodintro
  iapply hQ
  unfold Bar'
  isplitr; · iexact Hrec
  isplitr [HR]
  · isplitl [HO]; · iexists _; iexact HO
    isplitl [Hv]; · iexact Hv
    iexact Hp
  · iexact HR

/-! ## Before the first operation -/

/-- The rights to send and to be told. -/
def Rights : sProp 𝕄 :=
  iprop((bigSep Finset.univ fun μ => dutyTok ER (cell d (snd μ)) 0 0) ∗ (bigSep Finset.univ fun μ => dutyTok ER (cell (nb (dir μ) d) (rcv μ)) 0 0)
    ∗ (bigSep Finset.univ fun μ => atPos ER (cell d (snd μ)) 0 ∅ 0)
    ∗ (bigSep Finset.univ fun μ => cred (tallyAt (cell d (rcv μ)) () (N μ))) ∗ bigSep Finset.univ fun μ => atPos ER (cell d (rcv μ)) 0 ∅ 0)

theorem begun : iprop((∃ W, owes (d : Thread nD τ) (owing d 0) W) ∗ (bigSep Finset.univ fun μ => hole μ d) ∗ Rights d
      ∗ xPts m d Finset.univ fullShare ∗ ∃ f, (((d : Thread nD τ).loc cc0_stg1_0) ↦{fullShare} f)) ⊢ St m d 0 := by
  have hS : itemS (F := F) d 0 = fun μ => iprop(dutyTok ER (cell d (snd μ)) 0 0 ∗ dutyTok ER (cell (nb (dir μ) d) (rcv μ)) 0 0 ∗ hole μ d ∗ atPos ER (cell d (snd μ)) 0 ∅ 0) :=
    funext fun μ => by unfold itemS; rw [if_pos (Nat.zero_le _)]
  have hR : itemR m d 0 = fun μ => iprop(cred (tallyAt (cell d (rcv μ)) () (N μ)) ∗ atPos ER (cell d (rcv μ)) 0 ∅ 0) :=
    funext fun μ => itemR_due m (Nat.zero_le _)
  have hX : itemX m d 0 = fun μ => xPts m d Finset.univ (tok μ) := funext fun μ => itemX_in m d μ (Or.inl (Nat.zero_le _))
  unfold St Rights lenders outItem
  rw [hS, hR, hX]
  simp only [bigSep_sep']
  iintro ⟨HO, Hh, ⟨Ht, Ht', Ha, Hc, Ha'⟩, Hx, %f, Ho⟩
  ihave Hs := (pointsTo_toks_split fullShare 39) $$ Hx
  icases Hs with ⟨Hk, Htok⟩
  isplitl [HO]; · iexact HO
  isplitl [Ht Ht' Hh Ha]
  · isplitl [Ht]; · iexact Ht
    isplitl [Ht']; · iexact Ht'
    isplitl [Hh]; · iexact Hh
    iexact Ha
  isplitl [Hc Ha' Htok]
  · isplitr [Htok]
    · isplitl [Hc]; · iexact Hc
      iexact Ha'
    · iexact Htok
  isplitl [Hk]; · iexact Hk
  iexists f
  isplitr; · ipureintro; exact outUpTo_start m d f
  iexact Ho

/-! ## After the last -/

/-- The counters of the transfers at zero. -/
def Rested : sProp 𝕄 :=
  iprop((bigSep Finset.univ fun μ => semVal (cell d (snd μ)) 0) ∗ bigSep Finset.univ fun μ => semVal (cell d (rcv μ)) 0)

theorem ended : St m d 149 ⊢ iprop((∃ W, owes (d : Thread nD τ) 0 W) ∗ Rested d ∗ (bigSep Finset.univ fun μ => gPts d (rset μ d) fullShare (G m d))
      ∗ xPts m d Finset.univ fullShare ∗ (((d : Thread nD τ).loc cc0_stg1_0) ↦{fullShare} outFin m d)) := by
  have hS : itemS (F := F) d 149 = fun μ => semVal (cell d (snd μ)) 0 := funext fun μ => itemS_after (pw_lt μ)
  have hA : ∀ μ, aside m d 149 μ = fun ν => gPts d (rset μ d) (tok ν) (G m d) := fun μ => funext fun ν => aside_in m d ν (Or.inr (pw_lt ν)) μ
  have hR : itemR m d 149 = fun μ => iprop(semVal (cell d (rcv μ)) 0 ∗ gPts d (rset μ d) kept (G m d) ∗ bigSep Finset.univ fun ν => gPts d (rset μ d) (tok ν) (G m d)) :=
    funext fun μ => by rw [itemR_got m d μ ((pr_lt_pw μ μ).trans (pw_lt μ)), hA]
  have hX : itemX m d 149 = fun μ => xPts m d Finset.univ (tok μ) := funext fun μ => itemX_in m d μ (Or.inr (pw_lt μ))
  have hj : (bigSep Finset.univ fun μ : Msg => iprop(gPts d (rset μ d) kept (G m d) ∗ bigSep Finset.univ fun ν : Msg => gPts d (rset μ d) (tok ν) (G m d)) : sProp 𝕄)
      ⊢ bigSep Finset.univ fun μ => gPts d (rset μ d) fullShare (G m d) := bigSep_mono fun μ _ => pointsTo_toks_join fullShare 39
  unfold St Rested lenders outItem
  rw [hS, hR, hX, owing_done d fun μ => (ps_lt_pw μ μ).trans (pw_lt μ), bigSep_sep']
  iintro ⟨HO, Hs, ⟨⟨Hr, Hg⟩, Htok⟩, Hk, %f, %hf, Ho⟩
  have hfin := outUpTo_end m d hf
  subst hfin
  isplitl [HO]; · iexact HO
  isplitl [Hs Hr]
  · isplitl [Hs]; · iexact Hs
    iexact Hr
  isplitl [Hg]; · iapply hj; iexact Hg
  isplitl [Hk Htok]
  · iapply (pointsTo_toks_join fullShare 39)
    isplitl [Hk]; · iexact Hk
    iexact Htok
  iexact Ho

end Cert.KernelIdeal.Exchange
-- ==== Proof.PartsA.lean ====
/-
The body's parts, the first half: each is read operation by operation.
-/
module

public import proofs.«01_k».proof.Proof.Walk
public import proofs.«01_k».proof.Proof.Gen.KernelIdeal.Skeleton

@[expose] public section

noncomputable section

namespace Cert.KernelIdeal.Exchange

open Cert.KernelIdeal Cert.KernelIdeal.Gen
open Idealize.ShloMosaic
open Idealize.ShloMosaic.TcCoe

variable {F : FTy → Type} [FloatOps F]
variable {m : (ℓ : Loc nD τ sig) → Buf (Elt F) ℓ} {K : Dev nD × CIx → ℕ} (d : Dev nD)

theorem part3 (w₁ w₂ w₃ w₄ : BitVec 32) :
    Tr m K d 0 2 (onBufs (k0_part3 (F := F)) d w₁ w₂ w₃ w₄) (fun _ => True) := by
  rw [k0_part3_eq_skeleton]
  dsimp only [onBufs, k0_part3_skel]
  exact Tr.bind (send_x 0 (Fin.ext (k0_dev4_eq d)) (at_zx d 0) (at_z d 0)) fun _ _ =>
    Tr.bind (send_x 1 (Fin.ext (k0_dev5_eq d)) (at_zx d 1) (at_z d 1)) fun _ _ =>
    Tr.pure trivial

theorem part4 (w₁ w₂ w₃ w₄ : BitVec 32) :
    Tr m K d 2 5 (onBufs (k0_part4 (F := F)) d w₁ w₂ w₃ w₄) (fun _ => True) := by
  rw [k0_part4_eq_skeleton]
  dsimp only [onBufs, k0_part4_skel]
  exact Tr.bind (send_x 2 (Fin.ext (k0_dev6_eq d)) (at_zx d 2) (at_z d 2)) fun _ _ =>
    Tr.bind (send_x 3 (Fin.ext (k0_dev7_eq d)) (at_zx d 3) (at_z d 3)) fun _ _ =>
    Tr.bind (send_x 4 (Fin.ext (k0_dev8_eq d)) (at_zx d 4) (at_z d 4)) fun _ _ =>
    Tr.pure trivial

theorem part5 (w₁ w₂ w₃ w₄ w₅ : BitVec 32) :
    Tr m K d 5 7 (onBufs (k0_part5 (F := F)) d w₁ w₂ w₃ w₄ w₅) (fun _ => True) := by
  rw [k0_part5_eq_skeleton]
  dsimp only [onBufs, k0_part5_skel]
  exact Tr.bind (send_x 5 (Fin.ext (k0_dev9_eq d)) (at_zx d 5) (at_z d 5)) fun _ _ =>
    Tr.bind (send_x 6 (Fin.ext (k0_dev10_eq d)) (at_zx d 6) (at_z d 6)) fun _ _ =>
    Tr.pure trivial

theorem part6 (w₁ w₂ w₃ w₄ w₅ : BitVec 32) :
    Tr m K d 7 9 (onBufs (k0_part6 (F := F)) d w₁ w₂ w₃ w₄ w₅) (fun _ => True) := by
  rw [k0_part6_eq_skeleton]
  dsimp only [onBufs, k0_part6_skel]
  exact Tr.bind (send_x 7 (Fin.ext (k0_dev11_eq d)) (at_zx d 7) (at_z d 7)) fun _ _ =>
    Tr.bind (send_x 8 (Fin.ext (k0_dev12_eq d)) (at_z8x d) (at_z8 d)) fun _ _ =>
    Tr.pure trivial

theorem part7 (w₁ w₂ w₃ w₄ w₅ w₆ : BitVec 32) :
    Tr m K d 9 11 (onBufs (k0_part7 (F := F)) d w₁ w₂ w₃ w₄ w₅ w₆) (fun _ => True) := by
  rw [k0_part7_eq_skeleton]
  dsimp only [onBufs, k0_part7_skel]
  exact Tr.bind (send_x 9 (Fin.ext (k0_dev13_eq d)) (at_z9x d) (at_z9 d)) fun _ _ =>
    Tr.bind (send_x 10 (Fin.ext (k0_dev14_eq d)) (at_z10x d) (at_z10 d)) fun _ _ =>
    Tr.pure trivial

theorem part8 (w₁ w₂ w₃ w₄ w₅ : BitVec 32) :
    Tr m K d 11 11 (onBufs (k0_part8 (F := F)) w₁ w₂ w₃ w₄ w₅) (fun _ => True) := by
  rw [k0_part8_eq_skeleton]
  dsimp only [onBufs, k0_part8_skel]
  exact Tr.pure trivial

theorem part9 (w₁ w₂ w₃ w₄ : BitVec 32) :
    Tr m K d 11 11 (onBufs (k0_part9 (F := F)) w₁ w₂ w₃ w₄) (fun _ => True) := by
  rw [k0_part9_eq_skeleton]
  dsimp only [onBufs, k0_part9_skel]
  exact Tr.pure trivial

theorem part10 (w₁ w₂ : BitVec 32) :
    Tr m K d 11 11 (onBufs (k0_part10 (F := F)) w₁ w₂) (fun _ => True) := by
  rw [k0_part10_eq_skeleton]
  dsimp only [onBufs, k0_part10_skel]
  exact Tr.pure trivial

theorem part11 (w₁ w₂ w₃ w₄ w₅ w₆ : BitVec 32) :
    Tr m K d 11 13 (onBufs (k0_part11 (F := F)) d w₁ w₂ w₃ w₄ w₅ w₆) (fun _ => True) := by
  rw [k0_part11_eq_skeleton]
  dsimp only [onBufs, k0_part11_skel]
  exact Tr.bind (step_recv 0) fun _ _ =>
    Tr.add 0 (at_a0 d 0) <|
    Tr.pure trivial

theorem part12 (w₁ w₂ w₃ w₄ w₅ w₆ : BitVec 32) :
    Tr m K d 13 16 (onBufs (k0_part12 (F := F)) d w₁ w₂ w₃ w₄ w₅ w₆) (fun _ => True) := by
  rw [k0_part12_eq_skeleton]
  dsimp only [onBufs, k0_part12_skel]
  exact Tr.bind (step_recv 1) fun _ _ =>
    Tr.bind (send_full 11 (Fin.ext (k0_dev15_eq d)) (at_xq d 0)) fun _ _ =>
    Tr.bind (send_full 18 (Fin.ext (k0_dev16_eq d)) (at_yq d 0)) fun _ _ =>
    Tr.pure trivial

theorem part13 (w₁ w₂ w₃ w₄ w₅ w₆ w₇ : BitVec 32) :
    Tr m K d 16 18 (onBufs (k0_part13 (F := F)) d w₁ w₂ w₃ w₄ w₅ w₆ w₇) (fun _ => True) := by
  rw [k0_part13_eq_skeleton]
  dsimp only [onBufs, k0_part13_skel]
  exact Tr.add 1 (at_a0 d 1) <|
    Tr.bind (step_recv 2) fun _ _ =>
    Tr.pure trivial

theorem part14 (w₁ w₂ w₃ w₄ w₅ w₆ w₇ : BitVec 32) :
    Tr m K d 18 21 (onBufs (k0_part14 (F := F)) d w₁ w₂ w₃ w₄ w₅ w₆ w₇) (fun _ => True) := by
  rw [k0_part14_eq_skeleton]
  dsimp only [onBufs, k0_part14_skel]
  exact Tr.bind (send_full 12 (Fin.ext (k0_dev17_eq d)) (at_xq d 1)) fun _ _ =>
    Tr.bind (send_full 19 (Fin.ext (k0_dev18_eq d)) (at_yq d 1)) fun _ _ =>
    Tr.add 2 (at_a0 d 2) <|
    Tr.pure trivial

theorem part15 (w₁ w₂ w₃ w₄ w₅ w₆ w₇ : BitVec 32) :
    Tr m K d 21 24 (onBufs (k0_part15 (F := F)) d w₁ w₂ w₃ w₄ w₅ w₆ w₇) (fun _ => True) := by
  rw [k0_part15_eq_skeleton]
  dsimp only [onBufs, k0_part15_skel]
  exact Tr.bind (step_recv 11) fun _ _ =>
    Tr.bind (send_half 32 (Fin.ext (k0_dev19_eq d)) (at_yr d 0)) fun _ _ =>
    Tr.add 9 (at_a1 d 1) <|
    Tr.pure trivial

theorem part16 (w₁ w₂ w₃ w₄ w₅ w₆ w₇ : BitVec 32) :
    Tr m K d 24 26 (onBufs (k0_part16 (F := F)) d w₁ w₂ w₃ w₄ w₅ w₆ w₇)
      (fun r => r.1 = k0_pay5 (xAt m d (k0_off15 d 64#32) (k0_off15_inb d 1)) ∧ r.2 = gAt m d (k0_off16 d 64#32) (k0_off16_inb d 1)) := by
  rw [k0_part16_eq_skeleton]
  dsimp only [onBufs, k0_part16_skel]
  exact Tr.bind (step_recv 18) fun _ _ =>
    Tr.bind (send_half 25 (Fin.ext (k0_dev20_eq d)) (at_xr d 0)) fun _ _ =>
    Tr.bind load_x fun x hx =>
    Tr.bind (load_g 17 (sources_before 17) (at_a2 d 1).2) fun g hg =>
    Tr.pure ⟨congrArg k0_pay5 hx, hg⟩

theorem part17 (w₁ w₂ w₃ w₄ w₅ w₆ w₇ : BitVec 32) (v567 : FVec F S64x512 .f32) (v571 : Vec F S64x512 .f32)
    (h₁ : v567 = k0_pay5 (xAt m d (k0_off15 d 64#32) (k0_off15_inb d 1))) (h₂ : v571 = gAt m d (k0_off16 d 64#32) (k0_off16_inb d 1)) :
    Tr m K d 26 29 (onBufs (k0_part17 (F := F)) d w₁ w₂ w₃ w₄ w₅ w₆ w₇ v567 v571) (fun _ => True) := by
  rw [k0_part17_eq_skeleton]
  dsimp only [onBufs, k0_part17_skel]
  exact Tr.bind load_o fun _ _ =>
    Tr.bind (store_o (h := k0_off15_inb d 1) 17 (at_a2 d 1).1 (at_a2 d 1).2 (by rw [h₁, h₂]; rfl)) fun _ _ =>
    Tr.bind (step_recv 3) fun _ _ =>
    Tr.bind (send_full 13 (Fin.ext (k0_dev21_eq d)) (at_xq d 2)) fun _ _ =>
    Tr.pure trivial

theorem part18 (w₁ w₂ w₃ w₄ w₅ w₆ w₇ : BitVec 32) :
    Tr m K d 29 31 (onBufs (k0_part18 (F := F)) d w₁ w₂ w₃ w₄ w₅ w₆ w₇) (fun _ => True) := by
  rw [k0_part18_eq_skeleton]
  dsimp only [onBufs, k0_part18_skel]
  exact Tr.bind (send_full 20 (Fin.ext (k0_dev22_eq d)) (at_yq d 2)) fun _ _ =>
    Tr.add 3 (at_a0 d 3) <|
    Tr.pure trivial

theorem part19 (w₁ w₂ w₃ w₄ w₅ : BitVec 32) :
    Tr m K d 31 34 (onBufs (k0_part19 (F := F)) d w₁ w₂ w₃ w₄ w₅) (fun _ => True) := by
  rw [k0_part19_eq_skeleton]
  dsimp only [onBufs, k0_part19_skel]
  exact Tr.bind (step_recv 12) fun _ _ =>
    Tr.bind (send_half 33 (Fin.ext (k0_dev23_eq d)) (at_yr d 1)) fun _ _ =>
    Tr.add 10 (at_a1 d 2) <|
    Tr.pure trivial

theorem part20 (w₁ w₂ w₃ w₄ w₅ w₆ : BitVec 32) :
    Tr m K d 34 37 (onBufs (k0_part20 (F := F)) d w₁ w₂ w₃ w₄ w₅ w₆) (fun _ => True) := by
  rw [k0_part20_eq_skeleton]
  dsimp only [onBufs, k0_part20_skel]
  exact Tr.bind (step_recv 19) fun _ _ =>
    Tr.bind (send_half 26 (Fin.ext (k0_dev24_eq d)) (at_xr d 1)) fun _ _ =>
    Tr.add 18 (at_a2 d 2) <|
    Tr.pure trivial

theorem part21 (w₁ w₂ w₃ w₄ w₅ w₆ w₇ : BitVec 32) :
    Tr m K d 37 39 (onBufs (k0_part21 (F := F)) d w₁ w₂ w₃ w₄ w₅ w₆ w₇) (fun _ => True) := by
  rw [k0_part21_eq_skeleton]
  dsimp only [onBufs, k0_part21_skel]
  exact Tr.bind (step_recv 4) fun _ _ =>
    Tr.bind (send_full 14 (Fin.ext (k0_dev25_eq d)) (at_xq d 3)) fun _ _ =>
    Tr.pure trivial

theorem part22 (w₁ w₂ w₃ w₄ w₅ w₆ w₇ : BitVec 32) :
    Tr m K d 39 42 (onBufs (k0_part22 (F := F)) d w₁ w₂ w₃ w₄ w₅ w₆ w₇) (fun _ => True) := by
  rw [k0_part22_eq_skeleton]
  dsimp only [onBufs, k0_part22_skel]
  exact Tr.bind (send_full 21 (Fin.ext (k0_dev26_eq d)) (at_yq d 3)) fun _ _ =>
    Tr.add 4 (at_a0 d 4) <|
    Tr.bind (step_recv 13) fun _ _ =>
    Tr.pure trivial

theorem part23 (w₁ w₂ w₃ w₄ w₅ : BitVec 32) :
    Tr m K d 42 44 (onBufs (k0_part23 (F := F)) d w₁ w₂ w₃ w₄ w₅) (fun _ => True) := by
  rw [k0_part23_eq_skeleton]
  dsimp only [onBufs, k0_part23_skel]
  exact Tr.bind (send_half 34 (Fin.ext (k0_dev27_eq d)) (at_yr d 2)) fun _ _ =>
    Tr.add 11 (at_a1 d 3) <|
    Tr.pure trivial

theorem part24 (w₁ w₂ w₃ w₄ w₅ w₆ : BitVec 32) :
    Tr m K d 44 47 (onBufs (k0_part24 (F := F)) d w₁ w₂ w₃ w₄ w₅ w₆) (fun _ => True) := by
  rw [k0_part24_eq_skeleton]
  dsimp only [onBufs, k0_part24_skel]
  exact Tr.bind (step_recv 20) fun _ _ =>
    Tr.bind (send_half 27 (Fin.ext (k0_dev28_eq d)) (at_xr d 2)) fun _ _ =>
    Tr.add 19 (at_a2 d 3) <|
    Tr.pure trivial

theorem part25 (w₁ w₂ w₃ w₄ w₅ w₆ w₇ w₈ w₉ : BitVec 32) :
    Tr m K d 47 49 (onBufs (k0_part25 (F := F)) d w₁ w₂ w₃ w₄ w₅ w₆ w₇ w₈ w₉) (fun _ => True) := by
  rw [k0_part25_eq_skeleton]
  dsimp only [onBufs, k0_part25_skel]
  exact Tr.bind (step_recv 5) fun _ _ =>
    Tr.bind (send_full 15 (Fin.ext (k0_dev29_eq d)) (at_xq d 4)) fun _ _ =>
    Tr.pure trivial

theorem part26 (w₁ w₂ w₃ w₄ w₅ w₆ w₇ w₈ : BitVec 32) :
    Tr m K d 49 52 (onBufs (k0_part26 (F := F)) d w₁ w₂ w₃ w₄ w₅ w₆ w₇ w₈) (fun _ => True) := by
  rw [k0_part26_eq_skeleton]
  dsimp only [onBufs, k0_part26_skel]
  exact Tr.bind (send_full 22 (Fin.ext (k0_dev30_eq d)) (at_yq d 4)) fun _ _ =>
    Tr.add 5 (at_a0 d 5) <|
    Tr.bind (step_recv 14) fun _ _ =>
    Tr.pure trivial

theorem part27 (w₁ w₂ w₃ w₄ w₅ w₆ w₇ w₈ : BitVec 32) :
    Tr m K d 52 55 (onBufs (k0_part27 (F := F)) d w₁ w₂ w₃ w₄ w₅ w₆ w₇ w₈) (fun _ => True) := by
  rw [k0_part27_eq_skeleton]
  dsimp only [onBufs, k0_part27_skel]
  exact Tr.bind (send_half 35 (Fin.ext (k0_dev31_eq d)) (at_yr d 3)) fun _ _ =>
    Tr.add 12 (at_a1 d 4) <|
    Tr.bind (step_recv 21) fun _ _ =>
    Tr.pure trivial

theorem part28 (w₁ w₂ w₃ w₄ w₅ w₆ w₇ : BitVec 32) :
    Tr m K d 55 58 (onBufs (k0_part28 (F := F)) d w₁ w₂ w₃ w₄ w₅ w₆ w₇) (fun _ => True) := by
  rw [k0_part28_eq_skeleton]
  dsimp only [onBufs, k0_part28_skel]
  exact Tr.bind (send_half 28 (Fin.ext (k0_dev32_eq d)) (at_xr d 3)) fun _ _ =>
    Tr.add 20 (at_a2 d 4) <|
    Tr.bind (step_recv 6) fun _ _ =>
    Tr.pure trivial

end Cert.KernelIdeal.Exchange
-- ==== Proof.PartsB.lean ====
/-
The body's parts, the second half: each is read operation by operation.
-/
module

public import proofs.«01_k».proof.Proof.Walk
public import proofs.«01_k».proof.Proof.Gen.KernelIdeal.Skeleton

@[expose] public section

noncomputable section

namespace Cert.KernelIdeal.Exchange

open Cert.KernelIdeal Cert.KernelIdeal.Gen
open Idealize.ShloMosaic
open Idealize.ShloMosaic.TcCoe

variable {F : FTy → Type} [FloatOps F]
variable {m : (ℓ : Loc nD τ sig) → Buf (Elt F) ℓ} {K : Dev nD × CIx → ℕ} (d : Dev nD)

theorem part29 (w₁ w₂ w₃ w₄ w₅ w₆ w₇ : BitVec 32) :
    Tr m K d 58 60 (onBufs (k0_part29 (F := F)) d w₁ w₂ w₃ w₄ w₅ w₆ w₇) (fun _ => True) := by
  rw [k0_part29_eq_skeleton]
  dsimp only [onBufs, k0_part29_skel]
  exact Tr.bind (send_full 16 (Fin.ext (k0_dev33_eq d)) (at_xq d 5)) fun _ _ =>
    Tr.bind (send_full 23 (Fin.ext (k0_dev34_eq d)) (at_yq d 5)) fun _ _ =>
    Tr.pure trivial

theorem part30 (w₁ w₂ w₃ w₄ w₅ w₆ w₇ : BitVec 32) :
    Tr m K d 60 62 (onBufs (k0_part30 (F := F)) d w₁ w₂ w₃ w₄ w₅ w₆ w₇) (fun _ => True) := by
  rw [k0_part30_eq_skeleton]
  dsimp only [onBufs, k0_part30_skel]
  exact Tr.add 6 (at_a0 d 6) <|
    Tr.bind (step_recv 15) fun _ _ =>
    Tr.pure trivial

theorem part31 (w₁ w₂ w₃ w₄ w₅ w₆ w₇ w₈ : BitVec 32) :
    Tr m K d 62 65 (onBufs (k0_part31 (F := F)) d w₁ w₂ w₃ w₄ w₅ w₆ w₇ w₈) (fun _ => True) := by
  rw [k0_part31_eq_skeleton]
  dsimp only [onBufs, k0_part31_skel]
  exact Tr.bind (send_half 36 (Fin.ext (k0_dev35_eq d)) (at_yr d 4)) fun _ _ =>
    Tr.add 13 (at_a1 d 5) <|
    Tr.bind (step_recv 22) fun _ _ =>
    Tr.pure trivial

theorem part32 (w₁ w₂ w₃ w₄ w₅ w₆ w₇ w₈ : BitVec 32) :
    Tr m K d 65 68 (onBufs (k0_part32 (F := F)) d w₁ w₂ w₃ w₄ w₅ w₆ w₇ w₈) (fun _ => True) := by
  rw [k0_part32_eq_skeleton]
  dsimp only [onBufs, k0_part32_skel]
  exact Tr.bind (send_half 29 (Fin.ext (k0_dev36_eq d)) (at_xr d 4)) fun _ _ =>
    Tr.add 21 (at_a2 d 5) <|
    Tr.bind (step_recv 7) fun _ _ =>
    Tr.pure trivial

theorem part33 (w₁ w₂ w₃ w₄ w₅ w₆ w₇ w₈ : BitVec 32) :
    Tr m K d 68 70 (onBufs (k0_part33 (F := F)) d w₁ w₂ w₃ w₄ w₅ w₆ w₇ w₈)
      (fun v => v = k0_pay19 (xAt m d (k0_off9 d 448#32) (k0_off9_inb d 7)) (gAt m d (k0_off10 d 448#32) (k0_off10_inb d 7))) := by
  rw [k0_part33_eq_skeleton]
  dsimp only [onBufs, k0_part33_skel]
  exact Tr.bind (send_full 17 (Fin.ext (k0_dev37_eq d)) (at_xq d 6)) fun _ _ =>
    Tr.bind (send_full 24 (Fin.ext (k0_dev38_eq d)) (at_yq d 6)) fun _ _ =>
    Tr.bind load_x fun x hx =>
    Tr.bind (load_g 7 (sources_before 7) (at_a0 d 7).2) fun g hg =>
    Tr.pure (congrArg₂ _ hx hg)

theorem part34 (w₁ w₂ w₃ w₄ w₅ w₆ w₇ w₈ : BitVec 32) (v1185 : FVec F S64x512 .f32)
    (h : v1185 = k0_pay19 (xAt m d (k0_off9 d 448#32) (k0_off9_inb d 7)) (gAt m d (k0_off10 d 448#32) (k0_off10_inb d 7))) :
    Tr m K d 70 73 (onBufs (k0_part34 (F := F)) d w₁ w₂ w₃ w₄ w₅ w₆ w₇ w₈ v1185)
      (fun v => v = xAt m d (k0_off12 d 384#32) (k0_off12_inb d 6)) := by
  rw [k0_part34_eq_skeleton]
  dsimp only [onBufs, k0_part34_skel]
  exact Tr.bind load_o fun _ _ =>
    Tr.bind (store_o (h := k0_off9_inb d 7) 7 (at_a0 d 7).1 (at_a0 d 7).2 (by rw [h]; rfl)) fun _ _ =>
    Tr.bind (step_recv 16) fun _ _ =>
    Tr.bind (send_half 37 (Fin.ext (k0_dev39_eq d)) (at_yr d 5)) fun _ _ =>
    Tr.bind load_x fun x hx =>
    Tr.pure hx

theorem part35 (w₁ w₂ w₃ w₄ w₅ w₆ w₇ : BitVec 32) (v1220 : Vec F S1x64x512 .f32)
    (h : v1220 = xAt m d (k0_off12 d 384#32) (k0_off12_inb d 6)) :
    Tr m K d 73 75 (onBufs (k0_part35 (F := F)) d w₁ w₂ w₃ w₄ w₅ w₆ w₇ v1220) (fun _ => True) := by
  rw [k0_part35_eq_skeleton]
  dsimp only [onBufs, k0_part35_skel]
  exact Tr.bind (load_g 14 (sources_before 14) (at_a1 d 6).2) fun g hg =>
    Tr.bind load_o fun _ _ =>
    Tr.bind (store_o (h := k0_off12_inb d 6) 14 (at_a1 d 6).1 (at_a1 d 6).2 (by rw [h, hg]; rfl)) fun _ _ =>
    Tr.bind (step_recv 23) fun _ _ =>
    Tr.pure trivial

theorem part36 (w₁ w₂ w₃ w₄ w₅ w₆ w₇ w₈ : BitVec 32) :
    Tr m K d 75 78 (onBufs (k0_part36 (F := F)) d w₁ w₂ w₃ w₄ w₅ w₆ w₇ w₈) (fun _ => True) := by
  rw [k0_part36_eq_skeleton]
  dsimp only [onBufs, k0_part36_skel]
  exact Tr.bind (send_half 30 (Fin.ext (k0_dev40_eq d)) (at_xr d 5)) fun _ _ =>
    Tr.add 22 (at_a2 d 6) <|
    Tr.bind (step_recv 17) fun _ _ =>
    Tr.pure trivial

theorem part37 (w₁ w₂ w₃ w₄ w₅ w₆ w₇ : BitVec 32) :
    Tr m K d 78 81 (onBufs (k0_part37 (F := F)) d w₁ w₂ w₃ w₄ w₅ w₆ w₇) (fun _ => True) := by
  rw [k0_part37_eq_skeleton]
  dsimp only [onBufs, k0_part37_skel]
  exact Tr.bind (send_half 38 (Fin.ext (k0_dev41_eq d)) (at_yr d 6)) fun _ _ =>
    Tr.add 15 (at_a1 d 7) <|
    Tr.bind (step_recv 24) fun _ _ =>
    Tr.pure trivial

theorem part38 (w₁ w₂ w₃ w₄ w₅ w₆ w₇ w₈ : BitVec 32) :
    Tr m K d 81 84 (onBufs (k0_part38 (F := F)) d w₁ w₂ w₃ w₄ w₅ w₆ w₇ w₈) (fun _ => True) := by
  rw [k0_part38_eq_skeleton]
  dsimp only [onBufs, k0_part38_skel]
  exact Tr.bind (send_half 31 (Fin.ext (k0_dev42_eq d)) (at_xr d 6)) fun _ _ =>
    Tr.add 23 (at_a2 d 7) <|
    Tr.bind (step_recv 8) fun _ _ =>
    Tr.pure trivial

theorem part39 (w₁ w₂ w₃ w₄ w₅ w₆ w₇ : BitVec 32) :
    Tr m K d 84 86 (onBufs (k0_part39 (F := F)) d w₁ w₂ w₃ w₄ w₅ w₆ w₇)
      (fun v => v = k0_pay25 (xAt m d (k0_off15 d 0#32) (k0_off15_inb d 0)) (gAt m d (k0_off16 d 0#32) (k0_off16_inb d 0))) := by
  rw [k0_part39_eq_skeleton]
  dsimp only [onBufs, k0_part39_skel]
  exact Tr.add 8 (at_a1 d 0) <|
    Tr.bind (step_recv 9) fun _ _ =>
    Tr.bind load_x fun x hx =>
    Tr.bind (load_g 16 (sources_before 16) (at_a2 d 0).2) fun g hg =>
    Tr.bind load_o fun _ _ =>
    Tr.pure (congrArg₂ _ hx hg)

theorem part40 (w₁ w₂ w₃ w₄ w₅ w₆ w₇ : BitVec 32) (v1399 : FVec F S64x512 .f32)
    (h : v1399 = k0_pay25 (xAt m d (k0_off15 d 0#32) (k0_off15_inb d 0)) (gAt m d (k0_off16 d 0#32) (k0_off16_inb d 0))) :
    Tr m K d 86 89 (onBufs (k0_part40 (F := F)) d w₁ w₂ w₃ w₄ w₅ w₆ w₇ v1399) (fun _ => True) := by
  rw [k0_part40_eq_skeleton]
  dsimp only [onBufs, k0_part40_skel]
  exact Tr.bind (store_o (h := k0_off15_inb d 0) 16 (at_a2 d 0).1 (at_a2 d 0).2 (by rw [h]; rfl)) fun _ _ =>
    Tr.bind (step_recv 10) fun _ _ =>
    Tr.add 24 (at_a3 d 0) <|
    Tr.pure trivial

theorem part41 (w₁ w₂ w₃ w₄ w₅ w₆ w₇ : BitVec 32) :
    Tr m K d 89 92 (onBufs (k0_part41 (F := F)) d w₁ w₂ w₃ w₄ w₅ w₆ w₇) (fun _ => True) := by
  rw [k0_part41_eq_skeleton]
  dsimp only [onBufs, k0_part41_skel]
  exact Tr.bind (step_recv 32) fun _ _ =>
    Tr.bind (step_recv 25) fun _ _ =>
    Tr.add 25 (at_a3 d 1) <|
    Tr.pure trivial

theorem part42 (w₁ w₂ w₃ w₄ w₅ w₆ w₇ : BitVec 32) :
    Tr m K d 92 95 (onBufs (k0_part42 (F := F)) d w₁ w₂ w₃ w₄ w₅ w₆ w₇) (fun _ => True) := by
  rw [k0_part42_eq_skeleton]
  dsimp only [onBufs, k0_part42_skel]
  exact Tr.bind (step_recv 33) fun _ _ =>
    Tr.bind (step_recv 26) fun _ _ =>
    Tr.add 26 (at_a3 d 2) <|
    Tr.pure trivial

theorem part43 (w₁ w₂ w₃ w₄ w₅ w₆ w₇ : BitVec 32) :
    Tr m K d 95 98 (onBufs (k0_part43 (F := F)) d w₁ w₂ w₃ w₄ w₅ w₆ w₇) (fun _ => True) := by
  rw [k0_part43_eq_skeleton]
  dsimp only [onBufs, k0_part43_skel]
  exact Tr.bind (step_recv 34) fun _ _ =>
    Tr.bind (step_recv 27) fun _ _ =>
    Tr.add 27 (at_a3 d 3) <|
    Tr.pure trivial

theorem part44 (w₁ w₂ w₃ w₄ w₅ w₆ w₇ : BitVec 32) :
    Tr m K d 98 101 (onBufs (k0_part44 (F := F)) d w₁ w₂ w₃ w₄ w₅ w₆ w₇) (fun _ => True) := by
  rw [k0_part44_eq_skeleton]
  dsimp only [onBufs, k0_part44_skel]
  exact Tr.bind (step_recv 35) fun _ _ =>
    Tr.bind (step_recv 28) fun _ _ =>
    Tr.add 28 (at_a3 d 4) <|
    Tr.pure trivial

theorem part45 (w₁ w₂ w₃ w₄ w₅ w₆ w₇ : BitVec 32) :
    Tr m K d 101 104 (onBufs (k0_part45 (F := F)) d w₁ w₂ w₃ w₄ w₅ w₆ w₇) (fun _ => True) := by
  rw [k0_part45_eq_skeleton]
  dsimp only [onBufs, k0_part45_skel]
  exact Tr.bind (step_recv 36) fun _ _ =>
    Tr.bind (step_recv 29) fun _ _ =>
    Tr.add 29 (at_a3 d 5) <|
    Tr.pure trivial

theorem part46 (w₁ w₂ w₃ w₄ w₅ w₆ w₇ : BitVec 32) :
    Tr m K d 104 107 (onBufs (k0_part46 (F := F)) d w₁ w₂ w₃ w₄ w₅ w₆ w₇) (fun _ => True) := by
  rw [k0_part46_eq_skeleton]
  dsimp only [onBufs, k0_part46_skel]
  exact Tr.bind (step_recv 37) fun _ _ =>
    Tr.bind (step_recv 30) fun _ _ =>
    Tr.add 30 (at_a3 d 6) <|
    Tr.pure trivial

theorem part47 (w₁ w₂ w₃ w₄ w₅ : BitVec 32) :
    Tr m K d 107 111 (onBufs (k0_part47 (F := F)) d w₁ w₂ w₃ w₄ w₅) (fun _ => True) := by
  rw [k0_part47_eq_skeleton]
  dsimp only [onBufs, k0_part47_skel]
  exact Tr.bind (step_recv 38) fun _ _ =>
    Tr.bind (step_recv 31) fun _ _ =>
    Tr.add 31 (at_a3 d 7) <|
    Tr.bind (step_sent 0) fun _ _ =>
    Tr.pure trivial

theorem part48 :
    Tr m K d 111 117 (onBufs (k0_part48 (F := F)) d) (fun _ => True) := by
  rw [k0_part48_eq_skeleton]
  dsimp only [onBufs, k0_part48_skel]
  exact Tr.bind (step_sent 1) fun _ _ =>
    Tr.bind (step_sent 2) fun _ _ =>
    Tr.bind (step_sent 3) fun _ _ =>
    Tr.bind (step_sent 4) fun _ _ =>
    Tr.bind (step_sent 5) fun _ _ =>
    Tr.bind (step_sent 6) fun _ _ =>
    Tr.pure trivial

theorem part49 :
    Tr m K d 117 122 (onBufs (k0_part49 (F := F)) d) (fun _ => True) := by
  rw [k0_part49_eq_skeleton]
  dsimp only [onBufs, k0_part49_skel]
  exact Tr.bind (step_sent 7) fun _ _ =>
    Tr.bind (step_sent 8) fun _ _ =>
    Tr.bind (step_sent 9) fun _ _ =>
    Tr.bind (step_sent 10) fun _ _ =>
    Tr.bind (step_sent 11) fun _ _ =>
    Tr.pure trivial

theorem part50 :
    Tr m K d 122 128 (onBufs (k0_part50 (F := F)) d) (fun _ => True) := by
  rw [k0_part50_eq_skeleton]
  dsimp only [onBufs, k0_part50_skel]
  exact Tr.bind (step_sent 18) fun _ _ =>
    Tr.bind (step_sent 12) fun _ _ =>
    Tr.bind (step_sent 19) fun _ _ =>
    Tr.bind (step_sent 32) fun _ _ =>
    Tr.bind (step_sent 25) fun _ _ =>
    Tr.bind (step_sent 13) fun _ _ =>
    Tr.pure trivial

theorem part51 :
    Tr m K d 128 134 (onBufs (k0_part51 (F := F)) d) (fun _ => True) := by
  rw [k0_part51_eq_skeleton]
  dsimp only [onBufs, k0_part51_skel]
  exact Tr.bind (step_sent 20) fun _ _ =>
    Tr.bind (step_sent 33) fun _ _ =>
    Tr.bind (step_sent 26) fun _ _ =>
    Tr.bind (step_sent 14) fun _ _ =>
    Tr.bind (step_sent 21) fun _ _ =>
    Tr.bind (step_sent 34) fun _ _ =>
    Tr.pure trivial

theorem part52 :
    Tr m K d 134 140 (onBufs (k0_part52 (F := F)) d) (fun _ => True) := by
  rw [k0_part52_eq_skeleton]
  dsimp only [onBufs, k0_part52_skel]
  exact Tr.bind (step_sent 27) fun _ _ =>
    Tr.bind (step_sent 15) fun _ _ =>
    Tr.bind (step_sent 22) fun _ _ =>
    Tr.bind (step_sent 35) fun _ _ =>
    Tr.bind (step_sent 28) fun _ _ =>
    Tr.bind (step_sent 16) fun _ _ =>
    Tr.pure trivial

theorem part53 :
    Tr m K d 140 146 (onBufs (k0_part53 (F := F)) d) (fun _ => True) := by
  rw [k0_part53_eq_skeleton]
  dsimp only [onBufs, k0_part53_skel]
  exact Tr.bind (step_sent 23) fun _ _ =>
    Tr.bind (step_sent 36) fun _ _ =>
    Tr.bind (step_sent 29) fun _ _ =>
    Tr.bind (step_sent 17) fun _ _ =>
    Tr.bind (step_sent 24) fun _ _ =>
    Tr.bind (step_sent 37) fun _ _ =>
    Tr.pure trivial

end Cert.KernelIdeal.Exchange
-- ==== Proof.Body.lean ====
/-
The body from the barrier's end to its last operation, assembled from its parts.
-/
module

public import proofs.«01_k».proof.Proof.Ends
public import proofs.«01_k».proof.Proof.PartsA
public import proofs.«01_k».proof.Proof.PartsB

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : Dev nD × CIx → ℕ) (d : Dev nD)

variable {m K} in
theorem Tr.run {n n' : ℕ} {α : Type} {p : Prog (TpuEff nD τ sig (Elt F) Λ₀ .tc) α} {P : α → Prop} (h : Tr m K d n n' p P)
    {R : sProp 𝕄} {Q : α → sProp 𝕄} (hQ : ∀ a, P a → iprop(recs m K ∗ St m d n' ∗ R) ⊢ Q a) :
    iprop(recs m K ∗ St m d n ∗ R) ⊢ wp frame (wpE (defs₀ (F := F)) 𝒱₀ (d : Thread nD τ) none) Set.univ p Q := h R Q hQ

set_option maxRecDepth 65536 in
/-- All 54 parts of the body: from the barrier on they take the device through the operations 0 to 146. -/
theorem part54 (R R' : sProp 𝕄) (Q : Dev nD → sProp 𝕄)
    (hin : iprop(recs m K ∗ Bar' d ∗ R) ⊢ iprop(recs m K ∗ St m d 0 ∗ R'))
    (hQ : iprop(recs m K ∗ St m d 147 ∗ R') ⊢ Q d) :
    iprop(recs m K ∗ Bar d ∗ R) ⊢ wp frame (wpE (defs₀ (F := F)) 𝒱₀ (d : Thread nD τ) none) Set.univ (onBufs (k0_part54 (F := F))) Q := by
  rw [k0_part54_eq_skeleton]
  dsimp only [onBufs, k0_part54_skel]
  rw [wp_bind]
  refine part1 d _ _ fun w₁ w₂ w₃ w₄ w₅ w₆ w₇ w₈ w₉ w₁₀ w₁₁ => ?_
  dsimp only
  rw [wp_bind]
  refine part2 m K d _ _ _ _ _ _ _ R _ (hin.trans ?_)
  refine Tr.run d (n := 0) (n' := 147) (R := R') (P := fun a => a = d) ?_ ?_
  rotate_left
  · rintro a rfl; exact hQ
  refine Tr.bind (part3 d _ _ _ _) fun _ _ => ?_
  refine Tr.bind (part4 d _ _ _ _) fun _ _ => ?_
  refine Tr.bind (part5 d _ _ _ _ _) fun _ _ => ?_
  refine Tr.bind (part6 d _ _ _ _ _) fun _ _ => ?_
  refine Tr.bind (part7 d _ _ _ _ _ _) fun _ _ => ?_
  refine Tr.bind (part8 d _ _ _ _ _) fun _ _ => ?_
  refine Tr.bind (part9 d _ _ _ _) fun _ _ => ?_
  refine Tr.bind (part10 d _ _) fun _ _ => ?_
  refine Tr.bind (part11 d _ _ _ _ _ _) fun _ _ => ?_
  refine Tr.bind (part12 d _ _ _ _ _ _) fun _ _ => ?_
  refine Tr.bind (part13 d _ _ _ _ _ _ _) fun _ _ => ?_
  refine Tr.bind (part14 d _ _ _ _ _ _ _) fun _ _ => ?_
  refine Tr.bind (part15 d _ _ _ _ _ _ _) fun _ _ => ?_
  refine Tr.bind (part16 d _ _ _ _ _ _ _) fun v hv => ?_
  refine Tr.bind (part17 d _ _ _ _ _ _ _ _ _ hv.1 hv.2) fun _ _ => ?_
  refine Tr.bind (part18 d _ _ _ _ _ _ _) fun _ _ => ?_
  refine Tr.bind (part19 d _ _ _ _ _) fun _ _ => ?_
  refine Tr.bind (part20 d _ _ _ _ _ _) fun _ _ => ?_
  refine Tr.bind (part21 d _ _ _ _ _ _ _) fun _ _ => ?_
  refine Tr.bind (part22 d _ _ _ _ _ _ _) fun _ _ => ?_
  refine Tr.bind (part23 d _ _ _ _ _) fun _ _ => ?_
  refine Tr.bind (part24 d _ _ _ _ _ _) fun _ _ => ?_
  refine Tr.bind (part25 d _ _ _ _ _ _ _ _ _) fun _ _ => ?_
  refine Tr.bind (part26 d _ _ _ _ _ _ _ _) fun _ _ => ?_
  refine Tr.bind (part27 d _ _ _ _ _ _ _ _) fun _ _ => ?_
  refine Tr.bind (part28 d _ _ _ _ _ _ _) fun _ _ => ?_
  refine Tr.bind (part29 d _ _ _ _ _ _ _) fun _ _ => ?_
  refine Tr.bind (part30 d _ _ _ _ _ _ _) fun _ _ => ?_
  refine Tr.bind (part31 d _ _ _ _ _ _ _ _) fun _ _ => ?_
  refine Tr.bind (part32 d _ _ _ _ _ _ _ _) fun _ _ => ?_
  refine Tr.bind (part33 d _ _ _ _ _ _ _ _) fun v hv => ?_
  refine Tr.bind (part34 d _ _ _ _ _ _ _ _ _ hv) fun v hv => ?_
  refine Tr.bind (part35 d _ _ _ _ _ _ _ _ hv) fun _ _ => ?_
  refine Tr.bind (part36 d _ _ _ _ _ _ _ _) fun _ _ => ?_
  refine Tr.bind (part37 d _ _ _ _ _ _ _) fun _ _ => ?_
  refine Tr.bind (part38 d _ _ _ _ _ _ _ _) fun _ _ => ?_
  refine Tr.bind (part39 d _ _ _ _ _ _ _) fun v hv => ?_
  refine Tr.bind (part40 d _ _ _ _ _ _ _ _ hv) fun _ _ => ?_
  refine Tr.bind (part41 d _ _ _ _ _ _ _) fun _ _ => ?_
  refine Tr.bind (part42 d _ _ _ _ _ _ _) fun _ _ => ?_
  refine Tr.bind (part43 d _ _ _ _ _ _ _) fun _ _ => ?_
  refine Tr.bind (part44 d _ _ _ _ _ _ _) fun _ _ => ?_
  refine Tr.bind (part45 d _ _ _ _ _ _ _) fun _ _ => ?_
  refine Tr.bind (part46 d _ _ _ _ _ _ _) fun _ _ => ?_
  refine Tr.bind (part47 d _ _ _ _ _) fun _ _ => ?_
  refine Tr.bind (part48 d) fun _ _ => ?_
  refine Tr.bind (part49 d) fun _ _ => ?_
  refine Tr.bind (part50 d) fun _ _ => ?_
  refine Tr.bind (part51 d) fun _ _ => ?_
  refine Tr.bind (part52 d) fun _ _ => ?_
  refine Tr.bind (part53 d) fun _ _ => ?_
  exact Tr.bind (step_sent 30) fun _ _ => Tr.pure rfl

set_option maxRecDepth 65536 in
/-- The whole body. -/
theorem body (R R' : sProp 𝕄) (Q : PUnit → sProp 𝕄)
    (hin : iprop(recs m K ∗ Bar' d ∗ R) ⊢ iprop(recs m K ∗ St m d 0 ∗ R'))
    (hQ : iprop(recs m K ∗ St m d 149 ∗ R') ⊢ Q ⟨⟩) :
    iprop(recs m K ∗ Bar d ∗ R) ⊢ wp frame (wpE (defs₀ (F := F)) 𝒱₀ (d : Thread nD τ) none) Set.univ (onBufs (cc0_body (F := F))) Q := by
  rw [cc0_body_eq_skeleton]
  dsimp only [onBufs, cc0_body_skel]
  rw [wp_bind]
  refine part54 m K d R R' _ hin ?_
  refine Tr.run d (n := 147) (n' := 149) (R := R') (P := fun _ => True) ?_ (fun _ _ => hQ)
  exact Tr.bind (step_sent 38) fun _ _ => step_sent 31

end Cert.KernelIdeal.Exchange
-- ==== Proof.Fund.lean ====
/-
The launch's ghost state: how it is made, dealt to the devices, and what arrival credit comes with it.
-/
module

public import proofs.«01_k».proof.Proof.Ends
public import proofs.«01_k».proof.Proof.Gen.KernelIdeal.Launch
public import Idealize.ShloMosaic.Lib.Pipeline.Launch

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over cells -/

omit [FloatOps F] in
/-- A family over a device's cells is its member at the barrier, those at the departures and those at the arrivals. -/
theorem over_cells (Φ : CIx → sProp 𝕄) :
    bigSep Finset.univ Φ = iprop(Φ bar ∗ (bigSep Finset.univ fun μ => Φ (snd μ)) ∗ bigSep Finset.univ fun μ => Φ (rcv μ)) := by
  have he : (Finset.univ.erase none : Finset CIx) = Finset.univ.map Function.Embedding.some := by
    ext k
    rcases k with _ | k
    · simp
    · simp
  rw [bigSep_univ_split (none : CIx), he, bigSep_map, bigSep_univ_prod,
    bigSep_univ_eq_bigSepL [false, true] (by decide) (by decide)]
  rfl

/-- The kernel's own semaphores. -/
def own (p : Bool × Msg) : SemLoc sig := sloc (some p)

theorem own_scoped : ∀ p, (own p).isScoped .tc = true := by decide +kernel
theorem own_staging : ∀ p (w : Fin 2) s, own p ≠ .dma ((cfg0.win w).sem s) := by decide +kernel
theorem own_facts : Pipeline.OwnSemFacts cfg0.spec own :=
  ⟨own_scoped, fun _ _ h => Option.some.inj (sloc_inj h), own_staging⟩

omit [FloatOps F] in
theorem own_zero (d : Dev nD) : (Pipeline.ownSems0 (Ix := Unit) (Name := ℕ) (U := UU) (Lvl := ℕ) (Val := Elt F) (τ := τ) own d : sProp 𝕄) = Rested d := by
  unfold Pipeline.ownSems0 Rested
  rw [bigSep_univ_prod, bigSep_univ_eq_bigSepL [false, true] (by decide) (by decide)]
  rfl
omit [FloatOps F] in
theorem barrier_zero (d : Dev nD) : (unscopedSems0 d : sProp 𝕄) = semVal (cell d bar) 0 := by
  unfold unscopedSems0; rw [bigSep_eq_bigSepL_of_eq [SemLoc.reg barS] (by decide +kernel) (by decide)]; rfl

omit [FloatOps F] in
theorem counters (d : Dev nD) :
    iprop(Pipeline.ownSems0 (Ix := Unit) (Name := ℕ) (U := UU) (Lvl := ℕ) (Val := Elt F) (τ := τ) own d ∗ unscopedSems0 d)
      ⊢ (bigSep Finset.univ fun k : CIx => semVal (cell d k) 0 : sProp 𝕄) := by
  rw [own_zero, barrier_zero, over_cells]
  unfold Rested
  iintro ⟨⟨HS, HR⟩, HB⟩
  isplitl [HB]; · iexact HB
  isplitl [HS]; · iexact HS
  iexact HR

/-! ## The first ghost state -/

def cellEmb : Dev nD × CIx ↪ GSem nD τ sig :=
  ⟨fun p => cell p.1 p.2, fun p q h => Prod.ext (cell_inj h).1 (cell_inj h).2⟩
def tokEmb : Dev nD × CIx × Fin 3 ↪ GSem nD τ sig × ℕ × Fin 3 :=
  ⟨fun p => (cell p.1 p.2.1, 0, p.2.2), fun p q h => by
    have h1 := cell_inj (congrArg Prod.fst h)
    exact Prod.ext h1.1 (Prod.ext h1.2 (congrArg (fun x => x.2.2) h))⟩
def allCells : Finset (GSem nD τ sig) := Finset.univ.map cellEmb
def allToks : Finset (GSem nD τ sig × ℕ × Fin 3) := Finset.univ.map tokEmb

def u₀ : UU :=
  (initOf (Pipeline.cells cfgs cellOf_inj) (Pipeline.launchToks cfgs cellOf_inj), initOf allCells allToks)

/-- The rights to pay a device's own cells. -/
def minted (d : Dev nD) : sProp 𝕄 :=
  bigSep Finset.univ fun k : CIx => bigSep Finset.univ fun i : Fin 3 => dutyTok ER (cell d k) 0 i

/-- A device's positions at its cells. -/
def places (d : Dev nD) : sProp 𝕄 := bigSep Finset.univ fun k : CIx => atPos ER (cell d k) 0 ∅ 0

/-- What each device is dealt at first. -/
def Deal (d : Dev nD) : sProp 𝕄 :=
  iprop((bigSep Finset.univ fun k : CIx => roundState ER (Rd m) (cell d k) 0)
    ∗ (bigSep Finset.univ fun k : CIx => reached ER (cell d k) 0) ∗ places d ∗ minted d)

theorem funded : BI.own (ER (initOf allCells allToks)) ⊢ (|==> bigSep Finset.univ (Deal m) : sProp 𝕄) := by
  have hC (Φ : GSem nD τ sig → sProp 𝕄) : bigSep allCells Φ = bigSep Finset.univ fun d : Dev nD => bigSep Finset.univ fun k : CIx => Φ (cell d k) := by
    unfold allCells; rw [bigSep_map, bigSep_univ_prod]; rfl
  have hT : bigSep allToks (fun x => (dutyTok ER x.1 x.2.1 x.2.2 : sProp 𝕄)) = bigSep Finset.univ minted := by
    unfold allToks; rw [bigSep_map, bigSep_univ_prod]
    exact bigSep_congr fun d _ => by unfold minted; rw [bigSep_univ_prod]; rfl
  iintro HX
  imod (Rounds.fund ER (Rd m) allCells allToks) $$ HX with ⟨Hst, Hr, Hat, Htok⟩
  imodintro
  ihave Hst' := (Entails.of_eq (hC fun g => roundState ER (Rd m) g 0)) $$ Hst
  ihave Hr' := (Entails.of_eq (hC fun g => reached ER g 0)) $$ Hr
  ihave Hat' := (Entails.of_eq (hC fun g => atPos ER g 0 ∅ 0)) $$ Hat
  ihave Htok' := (Entails.of_eq hT) $$ Htok
  unfold Deal places
  simp only [bigSep_sep']
  isplitl [Hst']; · iexact Hst'
  isplitl [Hr']; · iexact Hr'
  isplitl [Hat']; · iexact Hat'
  iexact Htok'

/-- A device's cells with their invariants. -/
theorem opened (d : Dev nD) :
    iprop(Pipeline.ownSems0 (Ix := Unit) (Name := ℕ) (U := UU) (Lvl := ℕ) (Val := Elt F) (τ := τ) own d ∗ unscopedSems0 d ∗ Deal m d)
      ⊢ |={Set.univ}=> iprop((bigSep Finset.univ fun k : CIx => iprop(∃ κ : ℕ, cellInv ER (Rd m) κ (cell d k)))
          ∗ (bigSep Finset.univ fun k : CIx => reached ER (cell d k) 0) ∗ places d ∗ minted d) := by
  have hopen : iprop((bigSep Finset.univ fun k : CIx => semVal (cell d k) 0) ∗ bigSep Finset.univ fun k : CIx => roundState ER (Rd m) (cell d k) 0)
      ⊢ (|={Set.univ}=> bigSep Finset.univ fun k : CIx => iprop(∃ κ : ℕ, cellInv ER (Rd m) κ (cell d k)) : sProp 𝕄) := by
    rw [← bigSep_sep']
    exact (bigSep_mono fun k _ => (Rounds.body_intro ER (Rd m) (cell d k)).trans inv_alloc).trans (bigSep_fupd _ _)
  unfold Deal
  iintro ⟨Hos, Hus, Hst, Hr, Hat, Htok⟩
  ihave Hv := (counters (F := F) d) $$ [Hos Hus]
  · isplitl [Hos]; · iexact Hos
    iexact Hus
  imod hopen $$ [Hv Hst] with Hinv
  · isplitl [Hv]; · iexact Hv
    iexact Hst
  imodintro
  isplitl [Hinv]; · iexact Hinv
  isplitl [Hr]; · iexact Hr
  isplitl [Hat]; · iexact Hat
  iexact Htok

/-! ## The rights dealt around -/

/-- The rights a device pays with: its neighbours' barriers, its departures, and the arrivals of what it sends. -/
def dues (d : Dev nD) : sProp 𝕄 :=
  iprop((bigSep Finset.univ fun i : Fin 3 => dutyTok ER (cell (nb i d) bar) 0 i)
    ∗ (bigSep Finset.univ fun μ : Msg => dutyTok ER (cell d (snd μ)) 0 0) ∗ bigSep Finset.univ fun μ : Msg => dutyTok ER (cell (nb (dir μ) d) (rcv μ)) 0 0)

omit [FloatOps F] in
/-- A family over devices is the same family over their neighbours. -/
theorem around {ι : Type} [Fintype ι] (e : ι → Fin 3) (Φ : Dev nD → ι → sProp 𝕄) :
    (bigSep Finset.univ fun d => bigSep Finset.univ fun j => Φ d j) = bigSep Finset.univ fun d => bigSep Finset.univ fun j => Φ (nb (e j) d) j := by
  rw [bigSep_univ_comm, bigSep_univ_comm (fun d j => Φ (nb (e j) d) j)]
  exact bigSep_congr fun j _ => bigSep_univ_equiv (nbEquiv (e j)) fun d => Φ d j

omit [FloatOps F] in
theorem first_tok (d : Dev nD) (f : Msg → CIx) :
    (bigSep Finset.univ fun μ => bigSep Finset.univ fun i : Fin 3 => dutyTok ER (cell d (f μ)) 0 i : sProp 𝕄)
      ⊢ bigSep Finset.univ fun μ => dutyTok ER (cell d (f μ)) 0 0 :=
  bigSep_mono fun μ _ => bigSep_elim (Finset.mem_univ (0 : Fin 3))

omit [FloatOps F] in
theorem dealt_out : bigSep Finset.univ (minted (F := F)) ⊢ bigSep Finset.univ dues := by
  have h : ∀ d, minted (F := F) d ⊢ iprop((bigSep Finset.univ fun i : Fin 3 => dutyTok ER (cell d bar) 0 i)
      ∗ (bigSep Finset.univ fun μ : Msg => dutyTok ER (cell d (snd μ)) 0 0) ∗ bigSep Finset.univ fun μ : Msg => dutyTok ER (cell d (rcv μ)) 0 0) := fun d => by
    unfold minted
    rw [over_cells]
    iintro ⟨Hb, Hs, Hr⟩
    isplitl [Hb]; · iexact Hb
    isplitl [Hs]; · iapply (first_tok d snd); iexact Hs
    iapply (first_tok d rcv); iexact Hr
  refine (bigSep_mono fun d _ => h d).trans ?_
  unfold dues
  rw [bigSep_sep', bigSep_sep', bigSep_sep', bigSep_sep',
    around (fun i : Fin 3 => i) (fun d i => dutyTok ER (cell d bar) 0 i), around dir (fun d μ => dutyTok ER (cell d (rcv μ)) 0 0)]
  exact BI.Entails.refl _

/-! ## What every device starts from -/

/-- The invariants of all cells and that all have been reached. -/
def known (K : Dev nD × CIx → ℕ) : sProp 𝕄 :=
  iprop(bigSep Finset.univ (fun p : Dev nD × CIx => cellInv ER (Rd m) (K p) (cell p.1 p.2))
    ∗ bigSep Finset.univ (fun p : Dev nD × CIx => reached ER (cell p.1 p.2) 0))

instance known_persistent (K : Dev nD × CIx → ℕ) : BI.Persistent (known m K) := by unfold known; infer_instance

/-- What the global step gives each device. -/
def Deal' (d : Dev nD) : sProp 𝕄 := iprop(∃ K, known m K ∗ places d ∗ dues d)

omit [FloatOps F] in
theorem beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regrouped :
    (bigSep Finset.univ fun d : Dev nD => iprop((bigSep Finset.univ fun k : CIx => iprop(∃ κ : ℕ, cellInv ER (Rd m) κ (cell d k)))
          ∗ (bigSep Finset.univ fun k : CIx => reached ER (cell d k) 0) ∗ places d ∗ minted d) : sProp 𝕄)
      ⊢ bigSep Finset.univ (Deal' m) := by
  rw [bigSep_sep', bigSep_sep', bigSep_sep', ← bigSep_univ_prod (fun p : Dev nD × CIx => iprop(∃ κ : ℕ, cellInv ER (Rd m) κ (cell p.1 p.2))),
    ← bigSep_univ_prod (fun p : Dev nD × CIx => (reached ER (cell p.1 p.2) 0 : sProp 𝕄))]
  have hin : ∀ K (d : Dev nD), iprop(known m K ∗ places d ∗ dues d) ⊢ Deal' m d := fun K d => by
    unfold Deal'
    iintro H
    iexists K; iexact H
  iintro ⟨HI, #HR, Hat, Htok⟩
  ihave HK := (BI.bigSep_exists_pi Finset.univ (fun (p : Dev nD × CIx) (κ : ℕ) => (cellInv ER (Rd m) κ (cell p.1 p.2) : sProp 𝕄))) $$ HI
  icases HK with ⟨%K, #HI⟩
  ihave Hd := (dealt_out (F := F)) $$ Htok
  iapply (beside (R := known m K) (Φ := fun d => iprop(places d ∗ dues d)) fun d _ => hin K d)
  isplitr
  · unfold known
    isplitr; · iexact HI
    iexact HR
  · rw [bigSep_sep']
    isplitl [Hat]; · iexact Hat
    iexact Hd

/-- The global step: all semaphores of all devices at once. -/
theorem shared : (bigSep Finset.univ fun d => iprop(Pipeline.ownSems0 (Ix := Unit) (Name := ℕ) (U := UU) (Lvl := ℕ) (Val := Elt F) (τ := τ) own d ∗ unscopedSems0 d ∗ Deal m d) : sProp 𝕄)
    ⊢ |={Set.univ}=> bigSep Finset.univ (Deal' m) :=
  ((bigSep_mono fun d _ => opened m d).trans (bigSep_fupd _ _)).trans (BI.fupd_mono (regrouped m))

/-! ## Credit -/

theorem nb_swap {i : Fin 3} {a b : Dev nD} (h : a = nb i b) : b = nb i a := by rw [h, nb_nb]

/-- What a device owes a barrier: a unit in each direction it lies; -/
theorem owed_bar (d c : Dev nD) : owing₀ d (cell c bar) () = (if d = nb 2 c then 1 else 0) + (if d = nb 1 c then 1 else 0) + (if d = nb 0 c then 1 else 0) := by
  have h0 : owing d 0 (cell c bar) () = 0 := by
    by_contra h
    obtain ⟨μ, _, e⟩ := owing_pos (Nat.pos_of_ne_zero h)
    exact absurd (cell_inj e).2 (by intro h'; cases h')
  have hu : ∀ i, unit d i (cell c bar) () = if d = nb i c then 1 else 0 := fun i => by
    rw [tallyAt_apply]
    refine if_congr ⟨fun h => nb_swap (cell_inj h.1).1, fun h => ⟨by rw [nb_swap h], rfl⟩⟩ rfl rfl
  unfold owing₀
  rw [Pi.add_apply, Pi.add_apply, Pi.add_apply, Finsupp.add_apply, Finsupp.add_apply, Finsupp.add_apply, h0, hu, hu, hu, Nat.zero_add]
/-- an arrival's counter: the message, if it is the one sending it. -/
theorem owed_rcv (d c : Dev nD) (μ : Msg) : owing₀ d (cell c (rcv μ)) () = if d = nb (dir μ) c then N μ else 0 := by
  have hu : ∀ i, unit d i (cell c (rcv μ)) () = 0 := fun i => by
    rw [tallyAt_apply]
    exact if_neg fun h => absurd (cell_inj h.1).2 (by intro h'; cases h')
  unfold owing₀
  rw [Pi.add_apply, Pi.add_apply, Pi.add_apply, Finsupp.add_apply, Finsupp.add_apply, Finsupp.add_apply, hu, hu, hu, Nat.add_zero]
  unfold owing
  rw [Finset.sum_apply, Finsupp.finset_sum_apply, Finset.sum_eq_single μ]
  · rw [tallyAt_apply]
    refine if_congr ⟨fun h => nb_swap (cell_inj h.1).1, fun h => ⟨by rw [nb_swap h], rfl⟩⟩ rfl rfl
  · intro ν _ hν
    rw [tallyAt_apply]
    refine if_neg fun h => hν ?_
    have := (cell_inj h.1).2
    injection this with this
    exact (congrArg Prod.snd this).symm
  · intro h
    exact (h (Finset.mem_filter.mpr ⟨Finset.mem_univ μ, Nat.zero_le (ps μ)⟩)).elim

theorem credit_bar (c : Dev nD) :
    tallyOn (cell c bar) (launchCredit (Pipeline.owing owing₀) 0 (cell c bar)) = (tallyAt (cell c bar) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq', Finset.sum_ite_eq', Finset.sum_ite_eq', if_pos (Finset.mem_univ _), if_pos (Finset.mem_univ _), if_pos (Finset.mem_univ _)]
theorem credit_rcv (c : Dev nD) (μ : Msg) :
    tallyOn (cell c (rcv μ)) (launchCredit (Pipeline.owing owing₀) 0 (cell c (rcv μ))) = (tallyAt (cell c (rcv μ)) () (N μ) : CellTallies nD τ sig Unit) := by
  unfold tallyAt; refine congrArg _ (Finsupp.ext fun u => ?_); cases u
  rw [Pipeline.launchCredit_owing, Finsupp.single_eq_same, Finset.sum_congr rfl fun d _ => owed_rcv d c μ, Finset.sum_ite_eq', if_pos (Finset.mem_univ _)]

/-- The credit a device is launched with. -/
def Credit (d : Dev nD) : sProp 𝕄 :=
  iprop(cred (tallyAt (cell d bar) () 3) ∗ bigSep Finset.univ fun μ : Msg => cred (tallyAt (cell d (rcv μ)) () (N μ)))

omit [FloatOps F] in
theorem credits (d : Dev nD) : (Pipeline.launchCred owing₀ d : sProp 𝕄) ⊢ Credit d := by
  unfold Pipeline.launchCred Credit
  refine (bigSep_subset (Finset.subset_univ (Finset.univ.map ⟨sloc, fun _ _ h => sloc_inj h⟩))).trans ?_
  rw [bigSep_map, over_cells]
  show iprop(cred (tallyOn (cell d bar) (launchCredit (Pipeline.owing owing₀) 0 (cell d bar))) ∗ _
    ∗ bigSep Finset.univ fun μ : Msg => cred (tallyOn (cell d (rcv μ)) (launchCredit (Pipeline.owing owing₀) 0 (cell d (rcv μ))))) ⊢ _
  rw [credit_bar, bigSep_congr fun μ _ => congrArg cred (credit_rcv d μ)]
  iintro ⟨Hb, -, Hr⟩
  isplitl [Hb]; · iexact Hb
  iexact Hr

end Cert.KernelIdeal.Exchange
-- ==== Proof.Launch.lean ====
/-
The launch: the kernel run as a grid of one point, on every device, from any memory with zero counters.
-/
module

public import proofs.«01_k».proof.Proof.Body
public import proofs.«01_k».proof.Proof.Fund
public import proofs.«01_k».proof.Proof.Gen.KernelIdeal.Points
public import Idealize.ShloMosaic.Lib.Pipeline.Kit
public import Idealize.ShloMosaic.Lib.Pipeline.CollectiveSegs

@[expose] public section

noncomputable section

namespace Cert.KernelIdeal.Exchange

open Cert.KernelIdeal Cert.KernelIdeal.Gen
open Idealize.ShloMosaic
open Idealize.ShloMosaic.TcCoe
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A scratch buffer whole, at some contents. -/
def scratch (b : Ref sig .tc) (d : Dev nD) : sProp 𝕄 :=
  iprop(∃ f : Buf (Elt F) ((d : Thread nD τ).loc b), ((d : Thread nD τ).loc b) ↦{fullShare} f)

/-- What the body starts from besides its buffers, -/
def start (d : Dev nD) : sProp 𝕄 := iprop(Deal' m d ∗ Credit d ∗ levAts L lv)
/-- with its scratch buffers; -/
def Φ₀ (d : Dev nD) : sProp 𝕄 := iprop(start m d ∗ scratch cc0_scratch0 d ∗ scratch cc0_scratch1 d)
/-- and what it leaves. -/
def Φ₁ (d : Dev nD) : sProp 𝕄 := iprop(Rested d ∗ semVal (cell d bar) 0 ∗ scratch cc0_scratch0 d ∗ scratch cc0_scratch1 d)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outFin m c
  Φ t := match t with
    | ⟨0, _⟩ => Φ₀ m c
    | ⟨_ + 1, _⟩ => Φ₁ c
  q _ := fullShare
  owed t := match t with
    | ⟨0, _⟩ => owing₀ c
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev holds (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body -/

/-- What the barrier phase does not touch. -/
def rest (d : Dev nD) : sProp 𝕄 :=
  iprop(Rights d ∗ spare d ∗ scratch cc0_scratch1 d ∗ xPts m d Finset.univ fullShare ∗ ∃ f, (((d : Thread nD τ).loc cc0_stg1_0) ↦{fullShare} f))
/-- What only the exit takes up. -/
def rest' (d : Dev nD) : sProp 𝕄 := iprop(semVal (cell d bar) 0 ∗ spare d ∗ scratch cc0_scratch1 d)

theorem enter (K : Dev nD × CIx → ℕ) (d : Dev nD) : iprop(recs m K ∗ Bar' d ∗ rest m d) ⊢ iprop(recs m K ∗ St m d 0 ∗ rest' d) := by
  unfold Bar' rest rest'
  iintro ⟨HK, ⟨HO, Hz, Hh⟩, HR, Hsp, Hsc, Hx, Hout⟩
  isplitl [HK]; · iexact HK
  isplitl [HO Hh HR Hx Hout]
  · iapply (begun m d)
    isplitl [HO]; · iexact HO
    isplitl [Hh]; · iexact Hh
    isplitl [HR]; · iexact HR
    isplitl [Hx]; · iexact Hx
    iexact Hout
  isplitl [Hz]; · iexact Hz
  isplitl [Hsp]; · iexact Hsp
  iexact Hsc

/-- The held semaphores, places and credit, put together for the body. -/
theorem gathered (K : Dev nD × CIx → ℕ) (d : Dev nD) :
    iprop((∃ W, owes (d : Thread nD τ) (owing₀ d) W) ∗ (known m K ∗ places d ∗ dues d) ∗ Credit d ∗ levAts L lv ∗ scratch cc0_scratch0 d ∗ scratch cc0_scratch1 d
        ∗ xPts m d Finset.univ fullShare ∗ ∃ f, (((d : Thread nD τ).loc cc0_stg1_0) ↦{fullShare} f))
      ⊢ iprop(recs m K ∗ Bar d ∗ rest m d) := by
  have hp : places (F := F) d ⊢ iprop(atPos ER (cell d bar) 0 ∅ 0 ∗ (bigSep Finset.univ fun μ : Msg => atPos ER (cell d (snd μ)) 0 ∅ 0)
      ∗ bigSep Finset.univ fun μ : Msg => atPos ER (cell d (rcv μ)) 0 ∅ 0) := Entails.of_eq (over_cells _)
  have hs : scratch (F := F) cc0_scratch0 d ⊢ iprop(bigSep Finset.univ (slot (F := F) d) ∗ spare d) := by
    unfold scratch
    iintro ⟨%f, H⟩
    iapply (cut d f)
    iexact H
  unfold known dues Credit recs Bar rest Rights
  iintro ⟨HO, ⟨⟨HI, HR⟩, Hat, Htb, Hts, Htr⟩, ⟨Hcb, Hcr⟩, Hlev, Hsc, Hsc', Hx, Hout⟩
  ihave Hat' := hp $$ Hat
  icases Hat' with ⟨Hab, Has, Har⟩
  ihave Hsc1 := hs $$ Hsc
  icases Hsc1 with ⟨Hsl, Hsp⟩
  isplitl [HI HR Hlev]
  · isplitl [HI]; · iexact HI
    isplitl [HR]; · iexact HR
    iexact Hlev
  isplitl [HO Hcb Hab Htb Hsl]
  · isplitl [HO]; · iexact HO
    isplitl [Hcb]; · iexact Hcb
    isplitl [Hab]; · iexact Hab
    isplitl [Htb]; · iexact Htb
    iexact Hsl
  isplitl [Hts Htr Has Hcr Har]
  · isplitl [Hts]; · iexact Hts
    isplitl [Htr]; · iexact Htr
    isplitl [Has]; · iexact Has
    isplitl [Hcr]; · iexact Hcr
    iexact Har
  isplitl [Hsp]; · iexact Hsp
  isplitl [Hsc']; · iexact Hsc'
  isplitl [Hx]; · iexact Hx
  iexact Hout

def bodyPre (d : Dev nD) : sProp 𝕄 :=
  iprop(Φ₀ m d ∗ (dats m 0 d).owesAt () t0_0.castSucc
    ∗ (∃ X, holds d cc0_stg0_0 ((dats m 0 d).before (0 : Fin 2) t0_0 X)) ∗ (∃ X, holds d cc0_stg1_0 ((dats m 0 d).before (1 : Fin 2) t0_0 X)))
def bodyPost (d : Dev nD) : sProp 𝕄 :=
  iprop(Φ₁ d ∗ (dats m 0 d).owesAt () t0_0.succ ∗ holds d cc0_stg0_0 (xstg m d) ∗ holds d cc0_stg1_0 (outFin m d))

theorem leave (K : Dev nD × CIx → ℕ) (d : Dev nD) : iprop(recs m K ∗ St m d 149 ∗ rest' d) ⊢ bodyPost m d := by
  unfold rest' bodyPost Φ₁
  iintro ⟨-, HSt, Hz, Hsp, Hsc⟩
  ihave HE := (ended m d) $$ HSt
  icases HE with ⟨⟨%W, HO⟩, HR, Hg, Hx, Hout⟩
  ihave Hw := (glue (F := F) d (G m d)) $$ [Hg Hsp]
  · isplitl [Hg]; · iexact Hg
    iexact Hsp
  isplitl [HR Hz Hw Hsc]
  · isplitl [HR]; · iexact HR
    isplitl [Hz]; · iexact Hz
    isplitl [Hw]; · unfold scratch; iexact Hw
    iexact Hsc
  isplitl [HO]
  · unfold Dat.owesAt Pipeline.owesWithin
    iexists W
    isplitr
    · ipureintro; exact fun _ _ => Or.inl trivial
    iexact HO
  isplitl [Hx]
  · iexists _; isplitr; · (ipureintro; rfl)
    iexact Hx
  iexists _; isplitr; · (ipureintro; rfl)
  iexact Hout

theorem sound (d : Dev nD) :
    bodyPre m d ⊢ wp frame (wpE (defs₀ (F := F)) 𝒱₀ (d : Thread nD τ) none) Set.univ (onBufs (cc0_body (F := F))) (fun _ => bodyPost m d) := by
  unfold bodyPre Φ₀ start Deal'
  iintro ⟨⟨⟨⟨%K, Hg⟩, Hc, Hlev⟩, Hsc, Hsc'⟩, Ho, ⟨%d0, %g0, %hg0, Hx⟩, ⟨%d1, %g1, %hg1, Hout⟩⟩
  have hx : g0 = xstg m d := by rw [hg0]; unfold Dat.before; rw [if_pos (fetch0_0 t0_0)]; rfl
  subst hx
  unfold Dat.owesAt Pipeline.owesWithin
  icases Ho with ⟨%W, %hW, HO⟩
  iapply (body m K d (rest m d) (rest' d) (fun _ => bodyPost m d) (enter m K d) (leave m K d))
  iapply (gathered m K d)
  isplitl [HO]; · iexists W; iexact HO
  isplitl [Hg]; · iexact Hg
  isplitl [Hc]; · iexact Hc
  isplitl [Hlev]; · iexact Hlev
  isplitl [Hsc]; · iexact Hsc
  isplitl [Hsc']; · iexact Hsc'
  isplitl [Hx]; · iexact Hx
  iexists g1; iexact Hout

set_option maxRecDepth 65536 in
/-- The library's obligation on each device. -/
theorem obligation (c : Dev nD) : BodyObligation (dats (F := F) m 0 c) (defs₀ (F := F)) 𝒱₀ () Set.univ := fun t => by
  rw [show t = t0_0 from fin_N0 t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  simp only [owns_whole]
  show bodyPre m c ⊢ wp frame (wpE (defs₀ (F := F)) 𝒱₀ (c : Thread nD τ) none) Set.univ (onBufs (cc0_body (F := F))) (fun _ => bodyPost m c)
  exact sound m c

/-! ## The launch -/

theorem share_full (c : Dev nD) (w : Fin cfg0.W) : (dats m 0 c).share w = fullShare := by unfold Dat.share; split <;> rfl

theorem started (c : Dev nD) :
    iprop(Pipeline.unscopedRestP Pipeline.Prefetch.none cfg0.spec c (fun b => m ((c : Thread nD τ).loc b)) ∗ levAts L lv
        ∗ Pipeline.launchCred owing₀ c ∗ prngReg c (ρ c) ∗ Deal' m c)
      ⊢ |={Set.univ}=> iprop(start m c ∗ emp) := by
  iintro ⟨-, Hlev, Hcr, -, HG⟩
  imodintro
  unfold start
  isplitl
  · isplitl [HG]; · iexact HG
    isplitl [Hcr]; · iapply (credits (F := F) c); iexact Hcr
    iexact Hlev
  · iempintro

theorem first (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show (Pipeline.scopedRest cfg0.spec c : sProp 𝕄) = _ from scopedRest0_eq c]
  unfold Φ₀ scratch
  iintro ⟨Hs, -, Hr⟩
  isplitl [Hs]; · iexact Hs
  iexact Hr

theorem last (c : Dev nD) :
    (dats m 0 c).Φ (Fin.last cfg0.N) ⊢ iprop(unscopedSems0 c ∗ Pipeline.ownSems0 own c ∗ Pipeline.scopedRest cfg0.spec c) := by
  rw [show (dats m 0 c).Φ (Fin.last cfg0.N) = Φ₁ c from rfl, show (Pipeline.scopedRest cfg0.spec c : sProp 𝕄) = _ from scopedRest0_eq c, own_zero, barrier_zero]
  unfold Φ₁ scratch
  iintro ⟨HR, Hz, Hs⟩
  isplitl [Hz]; · iexact Hz
  isplitl [HR]; · iexact HR
  iexact Hs

theorem staging_low : ∀ (w : Fin 2) s, lvk (kind (.dma ((cfg0.win w).sem s))) = 0 := by decide +kernel

theorem waits (c : Dev nD) : (levAts L lv : sProp 𝕄) ⊢ Pipeline.cellsWaits cfgs (dats m) () 0 c :=
  Pipeline.cellsWaits_intro cfgs (dats m) () 0 c fun w s t =>
    mayWait_low c _ (staging_low w s) _ (by
      rcases t with ⟨_ | _, ht⟩
      · exact Or.inl rfl
      · exact Or.inr rfl)

set_option maxRecDepth 65536 in
/-- The whole run from a memory `m` with zero counters: on every device the arrays end at the computed contents, and every counter at zero. -/
theorem run_main : θ_run defs (onTc (τ := τ) (main (F := F))) ⟨m, fun _ => 0, ρ⟩ (fun r =>
    (∀ c : Dev nD, ∀ w : Fin cfg0.W, r.2.mem ((cfg0.win w).arr.view.loc (c : Thread nD τ)) = (dats m 0 c).arrAt w cfg0.N) ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := obligation m) (hne := block_pos0) (harr := arr_whole0) (hstage := stage_whole0) (hshare := share_full m)
    (hdistinct := winFacts0.arr_inj)
    (O₀ := owing₀) (howed₀ := fun _ => rfl) (howedN := fun _ => rfl)
    (L := L) (lv := lv) (hL := L_of_ne) (hwaits := waits m)
    (G := Deal m) (G' := Deal' m) (u₀ := u₀)
    (hu₀ := by
      unfold u₀
      iintro Hu
      ihave H := (ownU_pair _ _) $$ Hu
      icases H with ⟨HP, HX⟩
      imod (funded m) $$ HX with HG
      imodintro
      isplitl [HP]; · iexact HP
      iexact HG)
    (hglob := shared m)
    (hA := fun _ _ => rfl) (hpf := fun _ k => k.elim0)
    (X := start m) (Y := fun c => unscopedSems0 c) (Z := fun _ => iprop(emp))
    (hX := started m ρ) (hin := first m) (hout := last m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The input array ends as it began. -/
theorem input_kept (c : Dev nD) : (dats (F := F) m 0 c).arrAt (0 : Fin 2) cfg0.N = m ((c : Thread nD τ).loc main_arg0) :=
  (dats (F := F) m 0 c).arrAt_in (0 : Fin 2) rfl _

end Cert.KernelIdeal.Exchange
-- ==== Proof.Value.lean ====
/-
What the run computes: every device's result is its block of columns of the sum, over the leading axis, of the whole input.
-/
module

public import proofs.«01_k».proof.Proof.Launch
public import proofs.«01_k».proof.Proof.Gen.ReferenceIdeal.Run
public import Idealize.ShloMosaic.Lib.Layout
public import Idealize.ShloMosaic.Lib.Pointwise.Reduce
public import Idealize.ShloMosaic.Lib.Pipeline.Value

@[expose] public section

noncomputable section

namespace Cert.KernelIdeal.Exchange

open Cert.KernelIdeal Cert.KernelIdeal.Gen
open Idealize.ShloMosaic
open Idealize.ShloMosaic.TcCoe
open Idealize.SL.Sem

/-! ## Whole blocks -/

section

variable {F : FTy → Type} [FloatOps F]
variable (m : (ℓ : Loc nD τ sig) → Buf (Elt F) ℓ) (ρ : Dev nD → PrngReg)

theorem in_origin : ∀ a, win0_0.kind.off (win0_0.index t0_0 a) (win0_0.size a) = 0 := by decide +kernel
theorem out_origin : ∀ a, win0_1.kind.off (win0_1.index t0_0 a) (win0_1.size a) = 0 := by decide +kernel
theorem out_extent : ∀ a, win0_1.index t0_0 a * win0_1.size a = 0 ∧ win0_1.xsize (grid0.coords t0_0) a = S2048x512.size a := by decide +kernel

omit [FloatOps F] in
/-- The input is staged as it is. -/
theorem staged (c : Dev nD) : xstg m c = m ((c : Thread nD τ).loc main_arg0) := by
  funext j
  unfold xstg
  rw [View.read_apply]
  refine congrArg (m ((c : Thread nD τ).loc main_arg0)) (funext fun a => Fin.ext ?_)
  refine (Pipeline.Window.rect_emb_val_off win0_0 t0_0 j a).trans ?_
  rw [in_origin a, Nat.zero_add]

/-- The one block of the result is all of it. -/
theorem covered (i : S2048x512.Idx) : ∃ t : Fin cfg0.N, (cfg0.win 1).flush t = true ∧ i ∈ ((cfg0.win 1).blk t).view.set := by
  refine ⟨t0_0, flush0_1 _, (Iff.of_eq (congrArg (i ∈ ·) (View.set_slice_whole main_v1 (win0_1.rect t0_0)))).mpr (Rect.mem_set_unit.mpr fun a => ?_)⟩
  show win0_1.index t0_0 a * win0_1.size a ≤ (i a : ℕ) ∧ (i a : ℕ) < win0_1.index t0_0 a * win0_1.size a + win0_1.xsize (grid0.coords t0_0) a
  rw [(out_extent a).1, (out_extent a).2, Nat.zero_add]
  exact ⟨Nat.zero_le _, (i a).isLt⟩

theorem sent_back (c : Dev nD) (t : Fin cfg0.N) : (dats m 0 c).flushed 1 t = (win0_1.blk t).view.read (Elt F) (outFin m c) := by
  rw [show t = t0_0 from fin_N0 t]
  funext j
  rw [View.read_apply]
  refine congrArg (outFin m c) (funext fun a => Fin.ext ?_)
  refine Eq.trans ?_ (Pipeline.Window.rect_emb_val_off win0_1 t0_0 j a).symm
  rw [out_origin a, Nat.zero_add]

theorem result_final (c : Dev nD) : (dats m 0 c).arrAt (1 : Fin 2) cfg0.N = outFin m c :=
  (dats m 0 c).arrAt_eq_of_cover (1 : Fin 2) (outFin m c) (fun t _ => sent_back m c t) covered

/-- The run, read: the result on each device, the input as it was, the counters at zero. -/
theorem run : θ_run defs (onTc (τ := τ) (main (F := F))) ⟨m, fun _ => 0, ρ⟩ (fun r =>
    (∀ c : Dev nD, r.2.mem ((c : Thread nD τ).loc main_v1) = outFin m c
      ∧ r.2.mem ((c : Thread nD τ).loc main_arg0) = m ((c : Thread nD τ).loc main_arg0)) ∧ r.2.sem = fun _ => 0) :=
  (θ_run defs _ _).mono (fun _ h => ⟨fun c => ⟨(h.1 c (1 : Fin 2)).trans (result_final m c), (h.1 c (0 : Fin 2)).trans (input_kept m c)⟩, h.2⟩)
    (run_main m ρ)

/-- The frame alone. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => (h.1 c).2, h.2⟩) (run m ρ)

end

/-! ## The sum -/

abbrev Whole : Type := (⟨3, ![2, 2048, 1024]⟩ : Shape).Idx → EReal

set_option backward.proofsInPublic true in
/-- An index of the whole input. -/
def wIdx (k r j : ℕ) : (⟨3, ![2, 2048, 1024]⟩ : Shape).Idx := fun a =>
  ⟨![k % 2, r % 2048, j % 1024] a, by
    fin_cases a
    · exact Nat.mod_lt _ (by decide)
    · exact Nat.mod_lt _ (by decide)
    · exact Nat.mod_lt _ (by decide)⟩

/-- The sum over the leading axis. -/
def total (X : Whole) : (⟨2, ![2048, 1024]⟩ : Shape).Idx → EReal := fun i =>
  X (wIdx 0 (i 0).val (i 1).val) + X (wIdx 1 (i 0).val (i 1).val)

theorem lead_coord : ∀ c : Dev nD, ((Layout.meshBlock [2, 2, 2] ![[2], [], []] c : (b : Fin 3) → _) 0).val = c.val % 2
    ∧ ((Layout.meshBlock [2, 2, 2] ![[2], [], []] c : (b : Fin 3) → _) 1).val = 0
    ∧ ((Layout.meshBlock [2, 2, 2] ![[2], [], []] c : (b : Fin 3) → _) 2).val = 0 := by decide
theorem col_coord : ∀ c : Dev nD, ((Layout.meshBlock [2, 2, 2] ![[], [2]] c : (b : Fin 2) → _) 0).val = 0
    ∧ ((Layout.meshBlock [2, 2, 2] ![[], [2]] c : (b : Fin 2) → _) 1).val = c.val % 2 := by decide

variable (m : (ℓ : Loc nD τ sig) → Buf (Elt Ideal) ℓ) (X : Whole)

/-- Each device holds the plane of the whole input its place along `z` names. -/
def Holds : Prop := ∀ c : Dev nD, m ((c.tc : Thread nD τ).loc main_arg0)
  = Layout.blockN ⟨3, ![1, 2048, 1024]⟩ ⟨3, ![2, 2048, 1024]⟩ (Layout.meshBlock [2, 2, 2] ![[2], [], []] c) X

theorem plane (h : Holds m X) (c : Dev nD) (r j : ℕ) : xstg m c (xIdx r j) = X (wIdx (c.val % 2) r j) := by
  rw [staged, h c, Layout.blockN_apply]
  obtain ⟨h0, h1, h2⟩ := lead_coord c
  refine congrArg X (funext fun a => Fin.ext ?_)
  rw [Layout.TilesN.idx_val]
  fin_cases a
  · show ((Layout.meshBlock [2, 2, 2] ![[2], [], []] c : (b : Fin 3) → _) 0).val * 1 + 0 = c.val % 2 % 2
    rw [h0]; omega
  · show ((Layout.meshBlock [2, 2, 2] ![[2], [], []] c : (b : Fin 3) → _) 1).val * 2048 + r % 2048 = r % 2048
    rw [h1]; omega
  · show ((Layout.meshBlock [2, 2, 2] ![[2], [], []] c : (b : Fin 3) → _) 2).val * 1024 + j % 1024 = j % 1024
    rw [h2]; omega

/-- So each device computes its columns of the sum. -/
theorem computed (h : Holds m X) (c : Dev nD) :
    outFin m c = Layout.blockN ⟨2, ![2048, 512]⟩ ⟨2, ![2048, 1024]⟩ (Layout.meshBlock [2, 2, 2] ![[], [2]] c) (total X) := by
  funext i
  rw [Layout.blockN_apply]
  obtain ⟨h0, h1⟩ := col_coord c
  have hr : (i 0).val < 2048 := (i 0).isLt
  have hj : (i 1).val < 512 := (i 1).isLt
  unfold outFin G total
  rw [Layout.TilesN.idx_val, Layout.TilesN.idx_val, Ideal.addf_def, plane m X h, plane m X h,
    org_block (b := (i 0).val / 64) (by omega), org_half c ⟨(i 0).val / 64, by omega⟩]
  have e0 : ((Layout.meshBlock [2, 2, 2] ![[], [2]] c : (b : Fin 2) → _) 0).val * 2048 + (i 0).val = (i 0).val := by rw [h0]; omega
  have e1 : ((Layout.meshBlock [2, 2, 2] ![[], [2]] c : (b : Fin 2) → _) 1).val * 512 + (i 1).val = 512 * (c.val % 2) + (i 1).val := by rw [h1]; omega
  refine Eq.trans ?_ (congrArg₂ (fun r j => X (wIdx 0 r j) + X (wIdx 1 r j)) e0 e1).symm
  show X (wIdx _ _ _) + X (wIdx _ _ _) = _
  rcases Nat.mod_two_eq_zero_or_one c.val with hz | hz
  · rw [hz]
  · rw [hz]; exact add_comm _ _

/-- The reference computes the sum. -/
theorem summed (h : (⟨3, ![2, 2048, 1024]⟩ : Shape).ReducesTo [0] ⟨2, ![2048, 1024]⟩) (hu : 0 < (⟨0, ![]⟩ : Shape).numel) :
    (Host.reduceAdd (F := Ideal) (φ := .f32) X (constant ⟨0, ![]⟩ .f32 0x00000000#32) h hu) = total X := by
  funext i
  rw [Host.reduceAdd_apply, Ideal.hostReduceAdd_def, Ideal.hostReduceAdd_r3_a0, Fin.sum_univ_two]
  show Ideal.ofBits .f32 0x00000000#32 + _ = _
  rw [Ideal.ofBits_zero_f32, zero_add]
  have hr : (i 0).val < 2048 := (i 0).isLt
  have hj : (i 1).val < 1024 := (i 1).isLt
  unfold total
  refine congrArg₂ (· + ·) (congrArg X (funext fun a => Fin.ext ?_)) (congrArg X (funext fun a => Fin.ext ?_))
  · fin_cases a
    · rfl
    · exact (Nat.mod_eq_of_lt hr).symm
    · exact (Nat.mod_eq_of_lt hj).symm
  · fin_cases a
    · rfl
    · exact (Nat.mod_eq_of_lt hr).symm
    · exact (Nat.mod_eq_of_lt hj).symm

end Cert.KernelIdeal.Exchange
-- ==== Proof.lean ====
/- The certificate: the frames of the kernel, of its ideal reading and of the reference, and the equation between the
   devices' results and the reference's. The run they rest on is in `Proof/Launch.lean`, its value in `Proof/Value.lean`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-! The kernel and its ideal reading are one text, so one run, written over any float values, serves both. -/

section

variable {F : FTy → Type} [FloatOps F]

/-- The two texts give the same kernel body, -/
theorem bodies_same : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (_, _) => rfl
  | ⟨_ + 1, h⟩, _ => exact absurd h (Nat.not_lt.2 (Nat.le_add_left _ _))

/-- and so the same table of bodies. -/
theorem tables_same : Cert.Kernel.defs (F := F) = Cert.KernelIdeal.defs (F := F) :=
  congrArg (Pipeline.defs Cert.KernelIdeal.pcfgs) bodies_same

end

/-- The kernel at bits. -/
theorem frame_kernel : Cert.quiescent_Kernel := fun m ρ _ => by
  rw [tables_same]
  exact Cert.KernelIdeal.Exchange.run_frame (F := Bits) m ρ

/-- The kernel at the ideal instance. -/
theorem frame_ideal : Cert.quiescent_KernelIdeal := fun m ρ _ => Cert.KernelIdeal.Exchange.run_frame (F := Ideal) m ρ

/-- The reference, which has no semaphores. -/
theorem frame_reference : Cert.quiescent_ReferenceIdeal := fun m ρ _ =>
  (θ_run Cert.ReferenceIdeal.defs _ _).mono (fun _ h => ⟨fun c => (h c).2, sem_eq_zero_of_no_sems rfl _⟩)
    (Cert.ReferenceIdeal.Value.run (F := Ideal) m ρ)

/-- The devices' results are the column blocks of the reference's result. -/
theorem values : Cert.algebraic_KernelIdeal_ReferenceIdeal := fun m ρ m' ρ' _ hm =>
  ⟨Cert.KernelIdeal.Exchange.total (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).1.trans (Cert.KernelIdeal.Exchange.computed m _ hm c), (h.1 c).2⟩)
      (Cert.KernelIdeal.Exchange.run (F := Ideal) m ρ),
    (θ_run Cert.ReferenceIdeal.defs _ _).mono (fun _ h => ⟨(h 0).1.trans (Cert.KernelIdeal.Exchange.summed _ _ _), (h 0).2⟩)
      (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, values⟩

end Cert.Proof

end
